-- ==== Defs.lean ====
def Pre_Kernel (m : (ℓ : Loc Cert.Kernel.nD Cert.Kernel.τ Cert.Kernel.sig) → Buf (Elt Bits) ℓ) : Prop :=
  True

def Pre_Kernel_ranks_without_ties [hPre_ranks_without_ties : Cert.Pre_ranks_without_ties.Facts] (m : (ℓ : Loc Cert.Kernel.nD Cert.Kernel.τ Cert.Kernel.sig) → Buf (Elt Bits) ℓ) : Prop :=
  ∀ c : Dev Cert.Kernel.nD,
    (Cert.Pre_ranks_without_ties.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ranks_without_ties : Cert.Pre_ranks_without_ties.Facts] (m : (ℓ : Loc Cert.KernelIdeal.nD Cert.KernelIdeal.τ Cert.KernelIdeal.sig) → Buf (Elt Ideal) ℓ) : Prop :=
  ∀ c : Dev Cert.KernelIdeal.nD,
    (Cert.Pre_ranks_without_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranks_without_ties [hPre_ranks_without_ties : Cert.Pre_ranks_without_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranks_without_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_ranks_without_ties [hKernel : Cert.Kernel.Facts] [hPre_ranks_without_ties : Cert.Pre_ranks_without_ties.Facts] : Prop :=
  ∀ (m : (ℓ : Loc Cert.Kernel.nD Cert.Kernel.τ Cert.Kernel.sig) → Buf (Elt Bits) ℓ) (g : Dev Cert.Kernel.nD → PrngReg), Pre_Kernel_ranks_without_ties m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ranks_without_ties : Cert.Pre_ranks_without_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ranks_without_ties [hReferenceIdeal : Cert.ReferenceIdeal.Facts] [hPre_ranks_without_ties : Cert.Pre_ranks_without_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranks_without_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "twentieth" .f32 0x3D4CCCCD#32 ((1 / 20 : ℝ) : EReal)

def algebraic_KernelIdeal_ReferenceIdeal [hKernelIdeal : Cert.KernelIdeal.Facts] [hReferenceIdeal : Cert.ReferenceIdeal.Facts] [hPre_ranks_without_ties : Cert.Pre_ranks_without_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ranks_without_ties : Cert.Pre_ranks_without_ties.Facts),
    quiescent_Kernel (hKernel := hKernel)
    ∧ quiescent_Kernel_pre_ranks_without_ties (hKernel := hKernel) (hPre_ranks_without_ties := hPre_ranks_without_ties)
    ∧ quiescent_KernelIdeal (hKernelIdeal := hKernelIdeal) (hPre_ranks_without_ties := hPre_ranks_without_ties)
    ∧ quiescent_ReferenceIdeal (hReferenceIdeal := hReferenceIdeal)
    ∧ quiescent_ReferenceIdeal_pre_ranks_without_ties (hReferenceIdeal := hReferenceIdeal) (hPre_ranks_without_ties := hPre_ranks_without_ties)
    ∧ preserves_Kernel_KernelIdeal
    ∧ algebraic_KernelIdeal_ReferenceIdeal (hKernelIdeal := hKernelIdeal) (hReferenceIdeal := hReferenceIdeal) (hPre_ranks_without_ties := hPre_ranks_without_ties)
-- ==== Pre_ranks_without_ties.lean ====
abbrev S1024x64 : Shape := ⟨2, ![1024, 64]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S64x1024 : Shape := ⟨2, ![64, 1024]⟩
abbrev S1024x11 : Shape := ⟨2, ![1024, 11]⟩
abbrev S1024x10 : Shape := ⟨2, ![1024, 10]⟩

class Facts : Prop where
  reducesTo_S1024x64_S1024_d1 : S1024x64.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  transposes_S1024x64_S64x1024_1_0 : S1024x64.Transposes [1, 0] S64x1024
  bcast_S_S1024x1024 : S_.BroadcastsInDim S1024x1024 (![] : Fin 0 → Fin S1024x1024.rank)
  reducesTo_S1024x1024_S1024_d1 : S1024x1024.ReducesTo [1] S1024
  bcast_S_S1024 : S_.BroadcastsInDim S1024 (![] : Fin 0 → Fin S1024.rank)
  sliceFits_S1024x1024_S1024x11 : S1024x1024.Slices (fun _ => 0) S1024x11
  slices_S1024x11_S1024x10_0_0 : S1024x11.Slices ![0, 0] S1024x10
  slices_S1024x11_S1024x10_0_1 : S1024x11.Slices ![0, 1] S1024x10
  reducesTo_S1024x10_S1024_d1 : S1024x10.ReducesTo [1] S1024
  dot_S1024x64_S64x1024_S1024x1024_1_0_0_1_n_n_wf : DotDims.WF S1024x64 S64x1024 S1024x1024 [1] [0] [0] [1] [] []

variable [Facts]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def fn_norm {F : FTy → Type} [FloatOps F] (arg0 : FVec F S1024x64 .f32) : FVec F S1024x1 .f32 :=
  let v0 : FVec F S1024x64 .f32 := mulf arg0 arg0
  let cst : FVec F S_ .f32 := constant S_ .f32 0x00000000#32
  let v1 : FVec F S1024 .f32 := (fun x v => Host.reduceAdd x v reducesTo_S1024x64_S1024_d1 h_S_) v0 cst
  let v2 : FVec F S1024x1 .f32 := broadcastInDim S1024x1 ![0] bcast_S1024_S1024x1_0 v1
  let v3 : FVec F S1024x1 .f32 := Host.sqrt v2
  v3

def fn_where {F : FTy → Type} [FloatOps F] (arg0 : IVec S1024x1024 1) (arg1 : FVec F S_ .f32) (arg2 : FVec F S1024x1024 .f32) : FVec F S1024x1024 .f32 :=
  let v0 : FVec F S_ .f32 := id arg1
  let v1 : FVec F S1024x1024 .f32 := broadcastInDim S1024x1024 ![] bcast_S_S1024x1024 v0
  let v2 : FVec F S1024x1024 .f32 := select arg0 v1 arg2
  v2

def fn_part3 {F : FTy → Type} [FloatOps F] (main_v29 : FVec F S1024 .f32) (main_v57 : FVec F S1024x1024 .f32) : IVec S1024 1 :=
  let main_values : FVec F S1024x11 .f32 := (fun x => (Host.topK S1024x11 1 (FloatOps.cmpfTotal .gt) x sliceFits_S1024x1024_S1024x11).1) main_v57
  let main_indices : IVec S1024x11 32 := (fun x => (Host.topK S1024x11 1 (FloatOps.cmpfTotal .gt) x sliceFits_S1024x1024_S1024x11).2) main_v57
  let main_v58 : FVec F S1024x10 .f32 := (extractStridedSlice S1024x10 ![0, 0] · slices_S1024x11_S1024x10_0_0) main_values
  let main_v59 : FVec F S1024x10 .f32 := (extractStridedSlice S1024x10 ![0, 1] · slices_S1024x11_S1024x10_0_1) main_values
  let main_v60 : IVec S1024x10 1 := cmpf .ogt main_v58 main_v59
  let main_c : IVec S_ 1 := constantI S_ 1 1#1
  let main_v61 : IVec S1024 1 := (fun x v => Host.reduce IntOp.andi x v reducesTo_S1024x10_S1024_d1 h_S_) main_v60 main_c
  let main_cst_13 : FVec F S_ .f32 := constant S_ .f32 0x00000000#32
  let main_v62 : FVec F S1024 .f32 := broadcastInDim S1024 ![] bcast_S_S1024 main_cst_13
  let main_v63 : IVec S1024 1 := cmpf .ogt main_v29 main_v62
  let main_v64 : IVec S1024 1 := andi main_v63 main_v61
  main_v64

def fn_part2 {F : FTy → Type} [FloatOps F] (main_arg2 : IVec S1024 32) (main_v9 : FVec F S1024x64 .f32) (main_v29 : FVec F S1024 .f32) (main_v36 : FVec F S1024x1024 .f32) (main_v37 : FVec F S1024x1024 .f32) : IVec S1024 1 :=
  let main_v38 : FVec F S1024x1024 .f32 := addf main_v36 main_v37
  let main_v39 : FVec F S64x1024 .f32 := (transpose S64x1024 [1, 0] · transposes_S1024x64_S64x1024_1_0) main_v9
  let main_v40 : FVec F S1024x1024 .f32 := (fun l r => Host.dotGeneral dot_S1024x64_S64x1024_S1024x1024_1_0_0_1_n_n none l r) main_v9 main_v39
  let main_cst_9 : FVec F S_ .f32 := constant S_ .f32 0x40000000#32
  let main_v41 : FVec F S1024x1024 .f32 := broadcastInDim S1024x1024 ![] bcast_S_S1024x1024 main_cst_9
  let main_v42 : FVec F S1024x1024 .f32 := mulf main_v41 main_v40
  let main_v43 : FVec F S1024x1024 .f32 := subf main_v38 main_v42
  let main_cst_10 : FVec F S_ .f32 := constant S_ .f32 0x00000000#32
  let main_v44 : FVec F S1024x1024 .f32 := broadcastInDim S1024x1024 ![] bcast_S_S1024x1024 main_cst_10
  let main_v45 : FVec F S1024x1024 .f32 := maximumf main_v43 main_v44
  let main_v46 : FVec F S1024x1024 .f32 := Host.sqrt main_v45
  let main_v47 : FVec F S1024x1024 .f32 := mulf main_v46 main_v46
  let main_v48 : FVec F S1024x1024 .f32 := Host.negf main_v47
  let main_cst_11 : FVec F S_ .f32 := constant S_ .f32 0x3F800000#32
  let main_v49 : FVec F S1024x1024 .f32 := broadcastInDim S1024x1024 ![] bcast_S_S1024x1024 main_cst_11
  let main_v50 : FVec F S1024x1024 .f32 := Host.divf main_v48 main_v49
  let main_v51 : FVec F S1024x1024 .f32 := Host.exp main_v50
  let main_v52 : IVec S1024x1 32 := broadcastInDim S1024x1 ![0] bcast_S1024_S1024x1_0 main_arg2
  let main_v53 : IVec S1x1024 32 := broadcastInDim S1x1024 ![1] bcast_S1024_S1x1024_1 main_arg2
  let main_v54 : IVec S1024x1024 32 := broadcastInDim S1024x1024 ![0, 1] bcast_S1024x1_S1024x1024_0_1 main_v52
  let main_v55 : IVec S1024x1024 32 := broadcastInDim S1024x1024 ![0, 1] bcast_S1x1024_S1024x1024_0_1 main_v53
  let main_v56 : IVec S1024x1024 1 := cmpi .eq main_v54 main_v55
  let main_cst_12 : FVec F S_ .f32 := constant S_ .f32 0x3F800000#32
  let main_v57 : FVec F S1024x1024 .f32 := fn_where (F := F) main_v56 main_cst_12 main_v51
  fn_part3 (F := F) main_v29 main_v57

def fn_part1 {F : FTy → Type} [FloatOps F] (main_arg2 : IVec S1024 32) (main_v4 : FVec F S1024x64 .f32) (main_v9 : FVec F S1024x64 .f32) (main_v18 : FVec F S1024x1024 .f32) (main_v19 : FVec F S64x1024 .f32) : IVec S1024 1 :=
  let main_v20 : FVec F S1024x1024 .f32 := (fun l r => Host.dotGeneral dot_S1024x64_S64x1024_S1024x1024_1_0_0_1_n_n none l r) main_v4 main_v19
  let main_cst_3 : FVec F S_ .f32 := constant S_ .f32 0x40000000#32
  let main_v21 : FVec F S1024x1024 .f32 := broadcastInDim S1024x1024 ![] bcast_S_S1024x1024 main_cst_3
  let main_v22 : FVec F S1024x1024 .f32 := mulf main_v21 main_v20
  let main_v23 : FVec F S1024x1024 .f32 := subf main_v18 main_v22
  let main_cst_4 : FVec F S_ .f32 := constant S_ .f32 0x00000000#32
  let main_v24 : FVec F S1024x1024 .f32 := broadcastInDim S1024x1024 ![] bcast_S_S1024x1024 main_cst_4
  let main_v25 : FVec F S1024x1024 .f32 := maximumf main_v23 main_v24
  let main_v26 : FVec F S1024x1024 .f32 := Host.sqrt main_v25
  let main_cst_5 : FVec F S_ .f32 := constant S_ .f32 0x00000000#32
  let main_v27 : FVec F S1024 .f32 := (fun x v => Host.reduceAdd x v reducesTo_S1024x1024_S1024_d1 h_S_) main_v26 main_cst_5
  let main_cst_6 : FVec F S_ .f32 := constant S_ .f32 0x44800000#32
  let main_v28 : FVec F S1024 .f32 := broadcastInDim S1024 ![] bcast_S_S1024 main_cst_6
  let main_v29 : FVec F S1024 .f32 := Host.divf main_v27 main_v28
  let main_v30 : FVec F S1024x64 .f32 := mulf main_v9 main_v9
  let main_cst_7 : FVec F S_ .f32 := constant S_ .f32 0x00000000#32
  let main_v31 : FVec F S1024 .f32 := (fun x v => Host.reduceAdd x v reducesTo_S1024x64_S1024_d1 h_S_) main_v30 main_cst_7
  let main_v32 : FVec F S1024x1 .f32 := broadcastInDim S1024x1 ![0] bcast_S1024_S1024x1_0 main_v31
  let main_v33 : FVec F S1024x64 .f32 := mulf main_v9 main_v9
  let main_cst_8 : FVec F S_ .f32 := constant S_ .f32 0x00000000#32
  let main_v34 : FVec F S1024 .f32 := (fun x v => Host.reduceAdd x v reducesTo_S1024x64_S1024_d1 h_S_) main_v33 main_cst_8
  let main_v35 : FVec F S1x1024 .f32 := broadcastInDim S1x1024 ![1] bcast_S1024_S1x1024_1 main_v34
  let main_v36 : FVec F S1024x1024 .f32 := broadcastInDim S1024x1024 ![0, 1] bcast_S1024x1_S1024x1024_0_1 main_v32
  let main_v37 : FVec F S1024x1024 .f32 := broadcastInDim S1024x1024 ![0, 1] bcast_S1x1024_S1024x1024_0_1 main_v35
  fn_part2 (F := F) main_arg2 main_v9 main_v29 main_v36 main_v37

def fn {F : FTy → Type} [FloatOps F] (main_arg0 : FVec F S1024x64 .f32) (main_arg1 : FVec F S1024x64 .f32) (main_arg2 : IVec S1024 32) : IVec S1024 1 :=
  let main_v0 : FVec F S1024x1 .f32 := fn_norm (F := F) main_arg0
  let main_cst : FVec F S_ .f32 := constant S_ .f32 0x2B8CBCCC#32
  let main_v1 : FVec F S1024x1 .f32 := broadcastInDim S1024x1 ![] bcast_S_S1024x1 main_cst
  let main_v2 : FVec F S1024x1 .f32 := maximumf main_v0 main_v1
  let main_v3 : FVec F S1024x64 .f32 := broadcastInDim S1024x64 ![0, 1] bcast_S1024x1_S1024x64_0_1 main_v2
  let main_v4 : FVec F S1024x64 .f32 := Host.divf main_arg0 main_v3
  let main_v5 : FVec F S1024x1 .f32 := fn_norm (F := F) main_arg1
  let main_cst_0 : FVec F S_ .f32 := constant S_ .f32 0x2B8CBCCC#32
  let main_v6 : FVec F S1024x1 .f32 := broadcastInDim S1024x1 ![] bcast_S_S1024x1 main_cst_0
  let main_v7 : FVec F S1024x1 .f32 := maximumf main_v5 main_v6
  let main_v8 : FVec F S1024x64 .f32 := broadcastInDim S1024x64 ![0, 1] bcast_S1024x1_S1024x64_0_1 main_v7
  let main_v9 : FVec F S1024x64 .f32 := Host.divf main_arg1 main_v8
  let main_v10 : FVec F S1024x64 .f32 := mulf main_v4 main_v4
  let main_cst_1 : FVec F S_ .f32 := constant S_ .f32 0x00000000#32
  let main_v11 : FVec F S1024 .f32 := (fun x v => Host.reduceAdd x v reducesTo_S1024x64_S1024_d1 h_S_) main_v10 main_cst_1
  let main_v12 : FVec F S1024x1 .f32 := broadcastInDim S1024x1 ![0] bcast_S1024_S1024x1_0 main_v11
  let main_v13 : FVec F S1024x64 .f32 := mulf main_v4 main_v4
  let main_cst_2 : FVec F S_ .f32 := constant S_ .f32 0x00000000#32
  let main_v14 : FVec F S1024 .f32 := (fun x v => Host.reduceAdd x v reducesTo_S1024x64_S1024_d1 h_S_) main_v13 main_cst_2
  let main_v15 : FVec F S1x1024 .f32 := broadcastInDim S1x1024 ![1] bcast_S1024_S1x1024_1 main_v14
  let main_v16 : FVec F S1024x1024 .f32 := broadcastInDim S1024x1024 ![0, 1] bcast_S1024x1_S1024x1024_0_1 main_v12
  let main_v17 : FVec F S1024x1024 .f32 := broadcastInDim S1024x1024 ![0, 1] bcast_S1x1024_S1024x1024_0_1 main_v15
  let main_v18 : FVec F S1024x1024 .f32 := addf main_v16 main_v17
  let main_v19 : FVec F S64x1024 .f32 := (transpose S64x1024 [1, 0] · transposes_S1024x64_S64x1024_1_0) main_v4
  fn_part1 (F := F) main_arg2 main_v4 main_v9 main_v18 main_v19
-- ==== Kernel.lean ====
abbrev S1024x64 : Shape := ⟨2, ![1024, 64]⟩
abbrev S1024 : Shape := ⟨1, ![1024]⟩
abbrev S1x1024 : Shape := ⟨2, ![1, 1024]⟩
abbrev S1x1 : Shape := ⟨2, ![1, 1]⟩
abbrev S1024x1 : Shape := ⟨2, ![1024, 1]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 5
  | .vmem => 4
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024, .i32⟩
  | .hbm, ⟨3, _⟩ => ⟨S1x1024, .i32⟩
  | .hbm, ⟨4, _⟩ => ⟨S1x1, .f32⟩
  | .local _ .vmem, ⟨0, _⟩ => ⟨S1024x64, .f32⟩
  | .local _ .vmem, ⟨1, _⟩ => ⟨S1024x64, .f32⟩
  | .local _ .vmem, ⟨2, _⟩ => ⟨S1x1024, .i32⟩
  | .local _ .vmem, ⟨3, _⟩ => ⟨S1x1, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "twentieth" => some ((1 / 20 : ℝ) : EReal)
  | _ => none
-- ==== ReferenceIdeal.lean ====
abbrev S1024x64 : Shape := ⟨2, ![1024, 64]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S64x1024 : Shape := ⟨2, ![64, 1024]⟩
abbrev S1024x10 : Shape := ⟨2, ![1024, 10]⟩
abbrev S1024x5 : Shape := ⟨2, ![1024, 5]⟩
abbrev S1024x10x1 : Shape := ⟨3, ![1024, 10, 1]⟩
abbrev S1024x10x2 : Shape := ⟨3, ![1024, 10, 2]⟩
abbrev S1024x5x1 : Shape := ⟨3, ![1024, 5, 1]⟩
abbrev S1024x5x1024 : Shape := ⟨3, ![1024, 5, 1024]⟩
abbrev S1x1 : Shape := ⟨2, ![1, 1]⟩

abbrev nBuf : Space → Nat
  | .hbm => 198
  | .vmem => 0
  | .smem => 0
  | _ => 0

abbrev hbmTy0_0 (i : Nat) : BufTy := match i % 128 with
  | 0 => ⟨S1024x64, .f32⟩
  | 1 => ⟨S1024x64, .f32⟩
  | 2 => ⟨S1024, .i32⟩
  | 3 => ⟨S1024x64, .f32⟩
  | 4 => ⟨S_, .f32⟩
  | 5 => ⟨S1024, .f32⟩
  | 6 => ⟨S1024x1, .f32⟩
  | 7 => ⟨S1024x1, .f32⟩
  | 8 => ⟨S_, .f32⟩
  | 9 => ⟨S1024x1, .f32⟩
  | 10 => ⟨S1024x1, .f32⟩
  | 11 => ⟨S1024x64, .f32⟩
  | 12 => ⟨S1024x64, .f32⟩
  | 13 => ⟨S1024x64, .f32⟩
  | 14 => ⟨S_, .f32⟩
  | 15 => ⟨S1024, .f32⟩
  | 16 => ⟨S1024x1, .f32⟩
  | 17 => ⟨S1024x1, .f32⟩
  | 18 => ⟨S_, .f32⟩
  | 19 => ⟨S1024x1, .f32⟩
  | 20 => ⟨S1024x1, .f32⟩
  | 21 => ⟨S1024x64, .f32⟩
  | 22 => ⟨S1024x64, .f32⟩
  | 23 => ⟨S1024x64, .f32⟩
  | 24 => ⟨S_, .f32⟩
  | 25 => ⟨S1024, .f32⟩
  | 26 => ⟨S1024x1, .f32⟩
  | 27 => ⟨S1024x64, .f32⟩
  | 28 => ⟨S_, .f32⟩
  | 29 => ⟨S1024, .f32⟩
  | 30 => ⟨S1x1024, .f32⟩
  | 31 => ⟨S1024x1024, .f32⟩
  | 32 => ⟨S1024x1024, .f32⟩
  | 33 => ⟨S1024x1024, .f32⟩
  | 34 => ⟨S64x1024, .f32⟩
  | 35 => ⟨S1024x1024, .f32⟩
  | 36 => ⟨S_, .f32⟩
  | 37 => ⟨S1024x1024, .f32⟩
  | 38 => ⟨S1024x1024, .f32⟩
  | 39 => ⟨S1024x1024, .f32⟩
  | 40 => ⟨S_, .f32⟩
  | 41 => ⟨S1024x1024, .f32⟩
  | 42 => ⟨S1024x1024, .f32⟩
  | 43 => ⟨S1024x1024, .f32⟩
  | 44 => ⟨S_, .f32⟩
  | 45 => ⟨S1024, .f32⟩
  | 46 => ⟨S1024x1, .f32⟩
  | 47 => ⟨S_, .f32⟩
  | 48 => ⟨S1024x1, .f32⟩
  | 49 => ⟨S1024x1, .f32⟩
  | 50 => ⟨S1024x1024, .f32⟩
  | 51 => ⟨S1024x1024, .f32⟩
  | 52 => ⟨S1024x64, .f32⟩
  | 53 => ⟨S_, .f32⟩
  | 54 => ⟨S1024, .f32⟩
  | 55 => ⟨S1024x1, .f32⟩
  | 56 => ⟨S1024x64, .f32⟩
  | 57 => ⟨S_, .f32⟩
  | 58 => ⟨S1024, .f32⟩
  | 59 => ⟨S1x1024, .f32⟩
  | 60 => ⟨S1024x1024, .f32⟩
  | 61 => ⟨S1024x1024, .f32⟩
  | 62 => ⟨S1024x1024, .f32⟩
  | 63 => ⟨S64x1024, .f32⟩
  | 64 => ⟨S1024x1024, .f32⟩
  | 65 => ⟨S_, .f32⟩
  | 66 => ⟨S1024x1024, .f32⟩
  | 67 => ⟨S1024x1024, .f32⟩
  | 68 => ⟨S1024x1024, .f32⟩
  | 69 => ⟨S_, .f32⟩
  | 70 => ⟨S1024x1024, .f32⟩
  | 71 => ⟨S1024x1024, .f32⟩
  | 72 => ⟨S1024x1024, .f32⟩
  | 73 => ⟨S1024x1024, .f32⟩
  | 74 => ⟨S1024x1024, .f32⟩
  | 75 => ⟨S_, .f32⟩
  | 76 => ⟨S1024x1024, .f32⟩
  | 77 => ⟨S1024x1024, .f32⟩
  | 78 => ⟨S1024x1024, .f32⟩
  | 79 => ⟨S1024x1, .i32⟩
  | 80 => ⟨S1x1024, .i32⟩
  | 81 => ⟨S1024x1024, .i32⟩
  | 82 => ⟨S1024x1024, .i32⟩
  | 83 => ⟨S1024x1024, .i1⟩
  | 84 => ⟨S_, .f32⟩
  | 85 => ⟨S_, .f32⟩
  | 86 => ⟨S1024x1024, .f32⟩
  | 87 => ⟨S1024x1024, .f32⟩
  | 88 => ⟨S1024x10, .f32⟩
  | 89 => ⟨S1024x10, .i32⟩
  | 90 => ⟨S1024x5, .i32⟩
  | 91 => ⟨S_, .f32⟩
  | 92 => ⟨S1024x1024, .f32⟩
  | 93 => ⟨S1024, .i32⟩
  | 94 => ⟨S1024x1, .i32⟩
  | 95 => ⟨S_, .i32⟩
  | 96 => ⟨S1024x1, .i32⟩
  | 97 => ⟨S1024x1, .i1⟩
  | 98 => ⟨S_, .i32⟩
  | 99 => ⟨S1024x1, .i32⟩
  | 100 => ⟨S1024x1, .i32⟩
  | 101 => ⟨S1024x1, .i32⟩
  | 102 => ⟨S_, .i32⟩
  | 103 => ⟨S1024x10, .i32⟩
  | 104 => ⟨S1024x10, .i1⟩
  | 105 => ⟨S_, .i32⟩
  | 106 => ⟨S1024x10, .i32⟩
  | 107 => ⟨S1024x10, .i32⟩
  | 108 => ⟨S1024x10, .i32⟩
  | 109 => ⟨S1024x10, .i32⟩
  | 110 => ⟨S1024x10x1, .i32⟩
  | 111 => ⟨S1024x10x1, .i32⟩
  | 112 => ⟨S1024x10x2, .i32⟩
  | 113 => ⟨S_, .f32⟩
  | 114 => ⟨S1024x10, .f32⟩
  | 115 => ⟨S1024x1024, .f32⟩
  | 116 => ⟨S1024x1024, .f32⟩
  | 117 => ⟨S1024x1024, .f32⟩
  | 118 => ⟨S_, .f32⟩
  | 119 => ⟨S1024x1024, .f32⟩
  | 120 => ⟨S1024x1024, .f32⟩
  | 121 => ⟨S_, .f32⟩
  | 122 => ⟨S1024x1024, .f32⟩
  | 123 => ⟨S1024x1024, .i1⟩
  | 124 => ⟨S1024x1024, .f32⟩
  | 125 => ⟨S_, .f32⟩
  | 126 => ⟨S1024, .f32⟩
  | 127 => ⟨S1024x1024, .f32⟩
  | _ => ⟨S1024x64, .f32⟩

abbrev hbmTy0_1 (i : Nat) : BufTy := match i % 128 with
  | 0 => ⟨S1024x1024, .f32⟩
  | 1 => ⟨S1024x1024, .f32⟩
  | 2 => ⟨S_, .f32⟩
  | 3 => ⟨S1024, .f32⟩
  | 4 => ⟨S1024, .f32⟩
  | 5 => ⟨S1024x1, .f32⟩
  | 6 => ⟨S1024x1024, .f32⟩
  | 7 => ⟨S1024x1024, .f32⟩
  | 8 => ⟨S_, .i32⟩
  | 9 => ⟨S1024x5, .i32⟩
  | 10 => ⟨S1024x5, .i1⟩
  | 11 => ⟨S_, .i32⟩
  | 12 => ⟨S1024x5, .i32⟩
  | 13 => ⟨S1024x5, .i32⟩
  | 14 => ⟨S1024x5, .i32⟩
  | 15 => ⟨S1024x5x1, .i32⟩
  | 16 => ⟨S1024x5x1024, .f32⟩
  | 17 => ⟨S_, .f32⟩
  | 18 => ⟨S1024x1024, .f32⟩
  | 19 => ⟨S_, .f32⟩
  | 20 => ⟨S1024x1024, .f32⟩
  | 21 => ⟨S1024x1024, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S1024x1024, .f32⟩
  | 28 => ⟨S_, .f32⟩
  | 29 => ⟨S1024x1024, .f32⟩
  | 30 => ⟨S1024x1024, .f32⟩
  | 31 => ⟨S1024x1024, .i32⟩
  | 32 => ⟨S1024x1024, .i32⟩
  | 33 => ⟨S_, .i32⟩
  | 34 => ⟨S1024x1024, .i32⟩
  | 35 => ⟨S1024x1024, .i32⟩
  | 36 => ⟨S1024x1024, .i1⟩
  | 37 => ⟨S1024x1024, .f32⟩
  | 38 => ⟨S_, .f32⟩
  | 39 => ⟨S1024x1024, .f32⟩
  | 40 => ⟨S1024x1024, .f32⟩
  | 41 => ⟨S1024x1024, .f32⟩
  | 42 => ⟨S_, .f32⟩
  | 43 => ⟨S1024x1024, .f32⟩
  | 44 => ⟨S1024x1024, .f32⟩
  | 45 => ⟨S_, .f32⟩
  | 46 => ⟨S1024x1024, .f32⟩
  | 47 => ⟨S1024x1024, .f32⟩
  | 48 => ⟨S1024x1024, .f32⟩
  | 49 => ⟨S_, .f32⟩
  | 50 => ⟨S1024x1024, .f32⟩
  | 51 => ⟨S1024x1024, .f32⟩
  | 52 => ⟨S1024x1024, .f32⟩
  | 53 => ⟨S1024x1024, .f32⟩
  | 54 => ⟨S_, .f32⟩
  | 55 => ⟨S1024x1024, .f32⟩
  | 56 => ⟨S1024x1024, .f32⟩
  | 57 => ⟨S_, .f32⟩
  | 58 => ⟨S1024x1024, .f32⟩
  | 59 => ⟨S1024x1024, .f32⟩
  | 60 => ⟨S1024x1024, .f32⟩
  | 61 => ⟨S1024x1024, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S1x1, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v60 : Ref sig .tc := ⟨.hbm, 87, rfl⟩
abbrev main_values : Ref sig .tc := ⟨.hbm, 88, rfl⟩
abbrev main_indices : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c : Ref sig .tc := ⟨.hbm, 95, rfl⟩
abbrev main_v65 : Ref sig .tc := ⟨.hbm, 96, rfl⟩
abbrev main_v66 : Ref sig .tc := ⟨.hbm, 97, rfl⟩
abbrev main_c_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_17 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_18 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_20 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_21 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_22 : Ref sig .tc := ⟨.hbm, 136, rfl⟩
abbrev main_v97 : Ref sig .tc := ⟨.hbm, 137, rfl⟩
abbrev main_v98 : Ref sig .tc := ⟨.hbm, 138, rfl⟩
abbrev main_c_23 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_24 : Ref sig .tc := ⟨.hbm, 145, rfl⟩
abbrev main_v104 : Ref sig .tc := ⟨.hbm, 146, rfl⟩
abbrev main_cst_25 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_26 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_27 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_c_28 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_29 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_30 : Ref sig .tc := ⟨.hbm, 170, rfl⟩
abbrev main_v123 : Ref sig .tc := ⟨.hbm, 171, rfl⟩
abbrev main_v124 : Ref sig .tc := ⟨.hbm, 172, rfl⟩
abbrev main_cst_31 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_32 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_33 : Ref sig .tc := ⟨.hbm, 182, rfl⟩
abbrev main_v132 : Ref sig .tc := ⟨.hbm, 183, rfl⟩
abbrev main_v133 : Ref sig .tc := ⟨.hbm, 184, rfl⟩
abbrev main_cst_34 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_35 : Ref sig .tc := ⟨.hbm, 190, rfl⟩
abbrev main_v138 : Ref sig .tc := ⟨.hbm, 191, rfl⟩
abbrev main_cst_36 : Ref sig .tc := ⟨.hbm, 192, rfl⟩
abbrev main_v139 : Ref sig .tc := ⟨.hbm, 193, rfl⟩
abbrev main_v140 : Ref sig .tc := ⟨.hbm, 194, rfl⟩
abbrev main_cst_37 : Ref sig .tc := ⟨.hbm, 195, rfl⟩
abbrev main_v141 : Ref sig .tc := ⟨.hbm, 196, rfl⟩
abbrev main_v142 : Ref sig .tc := ⟨.hbm, 197, rfl⟩

abbrev nD : Nat := 1
abbrev τ : Topo := Topo.v7x

variable {F : FTy → Type} [FloatOps F]
-- ==== Proof.Order.lean ====
/- The order in which the entries of one row are ranked: greatest first, and of equal entries the earlier one first. -/
module

public import Idealize.ShloMosaic.PureOps.Ideal
public import Idealize.ShloMosaic.Lib.SortFacts
public import Idealize.ShloMosaic.Lib.SortPrefix

@[expose] public section

noncomputable section

namespace Cert.Relation

open Idealize.ShloMosaic

/-- Entry `p` of the row `a` ranks before entry `q`: it is greater, or equal and earlier. -/
def Ahead {n : Nat} (a : Fin n → EReal) (p q : Fin n) : Prop := a q < a p ∨ (a p = a q ∧ p < q)

/-- The comparison of two entries of a row by value alone. -/
def byValue {n : Nat} (a : Fin n → EReal) (p q : Fin n) : Bool := decide (a q < a p)

/-- The comparison of two entries of a row by value and then by place. -/
def byPlace {n : Nat} (a : Fin n → EReal) (p q : Fin n) : Bool :=
  decide (a q < a p) || (decide (a p = a q) && decide (p < q))

/-- Value and then place order the entries of a row totally. -/
theorem byPlace_total {n : Nat} (a : Fin n → EReal) : StrictTotalBefore (byPlace a) :=
  StrictTotalBefore.of_key_then_position (fun x y => decide (y < x)) a (fun x => by simp)
    (fun x y z h h' => by simp only [decide_eq_true_eq] at *; exact h'.trans h)
    (fun x y => by simp only [decide_eq_true_eq]; rcases lt_trichotomy y x with h | h | h
                   · exact Or.inl h
                   · exact Or.inr (Or.inl h.symm)
                   · exact Or.inr (Or.inr h))

/-- On a list in increasing order the sort by value is the sort by value and place. -/
theorem stableSort_byValue {n : Nat} (a : Fin n → EReal) (l : List (Fin n)) (hl : l.Pairwise (· < ·)) :
    stableSort (byValue a) l = stableSort (byPlace a) l := by
  induction l with
  | nil => rfl
  | cons p l ih =>
    rw [List.pairwise_cons] at hl
    unfold stableSort
    rw [ih hl.2]
    refine insertBefore_congr _ _ p _ fun q hq => ?_
    have hpq : p < q := hl.1 q ((perm_stableSort _ l).mem_iff.mp hq)
    simp [byValue, byPlace, not_lt.mpr hpq.le]

/-- The place of the entry that ranks `k`-th in the row. -/
def place {n : Nat} (a : Fin n → EReal) : Fin n → Fin n := sortedFrom (byValue a)

/-- The ranked places come from the sort by value and place. -/
theorem place_eq {n : Nat} (a : Fin n → EReal) : place a = sortedFrom (byPlace a) := by
  funext k
  have h : sortPositions n (byValue a) = sortPositions n (byPlace a) :=
    stableSort_byValue a _ (List.pairwise_lt_finRange n)
  unfold place sortedFrom
  rw [List.get_of_eq h]
  rfl

/-- An entry that is ranked earlier is ahead of one that is ranked later. -/
theorem place_ahead {n : Nat} (a : Fin n → EReal) {k m : Fin n} (h : k < m) : Ahead a (place a k) (place a m) := by
  rw [place_eq]
  have hT := byPlace_total a
  have h1 := sortedFrom_noInversion (byPlace a) (byPlace a) (fun p q h => hT.asymm p q h) (fun _ _ h => h) hT.negTrans k m h
  have hne : sortedFrom (byPlace a) k ≠ sortedFrom (byPlace a) m := fun e => h.ne (sortedFrom_injective _ e)
  rcases hT.total _ _ hne with h2 | h2
  · simpa [byPlace, Ahead] using h2
  · rw [h2] at h1; cases h1

/-- The ranking of a row as a bijection of the places. -/
def ranking {n : Nat} (a : Fin n → EReal) : Fin n ≃ Fin n :=
  Equiv.ofBijective (place a) ⟨sortedFrom_injective _, sortedFrom_surjective _⟩

/-- The rank of the entry at a place of the row. -/
def rank {n : Nat} (a : Fin n → EReal) (p : Fin n) : Fin n := (ranking a).symm p

/-- The entry of a rank stands at its place. -/
theorem place_rank {n : Nat} (a : Fin n → EReal) (p : Fin n) : place a (rank a p) = p := (ranking a).apply_symm_apply p

/-- The place of a rank has that rank. -/
theorem rank_place {n : Nat} (a : Fin n → EReal) (k : Fin n) : rank a (place a k) = k := (ranking a).symm_apply_apply k

/-- A place has rank `k` exactly if it is the `k`-th ranked place. -/
theorem rank_eq_iff {n : Nat} (a : Fin n → EReal) (p k : Fin n) : rank a p = k ↔ p = place a k :=
  ⟨fun h => by rw [← h, place_rank], fun h => by rw [h, rank_place]⟩

/-- The row after its first `k` ranked entries have been struck out: the one ranked `m` is replaced by `-(m + 1)`. -/
def struck {n : Nat} (a : Fin n → EReal) (k : Nat) (p : Fin n) : EReal :=
  if (rank a p).val < k then ((-((rank a p).val + 1 : ℝ) : ℝ) : EReal) else a p

/-- Striking nothing leaves the row. -/
theorem struck_zero {n : Nat} (a : Fin n → EReal) : struck a 0 = a := by
  funext p; simp [struck]

/-- Striking the entry ranked `k` from the row without its first `k` entries. -/
theorem struck_succ {n : Nat} (a : Fin n → EReal) (k : Fin n) (p : Fin n) :
    struck a (k.val + 1) p = if p = place a k then ((-(k.val + 1 : ℝ) : ℝ) : EReal) else struck a k.val p := by
  unfold struck
  by_cases e : p = place a k
  · have hr := (rank_eq_iff a p k).2 e
    rw [if_pos e, hr, if_pos (Nat.lt_succ_self _)]
  · have hr : (rank a p).val ≠ k.val := fun h => e ((rank_eq_iff a p k).1 (Fin.ext h))
    rw [if_neg e]
    by_cases h : (rank a p).val < k.val
    · rw [if_pos h, if_pos (Nat.lt_succ_of_lt h)]
    · rw [if_neg h, if_neg (by omega)]

/-- A struck entry is negative. -/
theorem strike_neg (m : Nat) : ((-((m : ℝ) + 1) : ℝ) : EReal) < 0 := by
  rw [← EReal.coe_zero, EReal.coe_lt_coe_iff]
  have : (0 : ℝ) ≤ m := Nat.cast_nonneg m
  linarith

/-- The entry ranked `k` is greatest among those left when the first `k` have been struck out. -/
theorem struck_le {n : Nat} (a : Fin n → EReal) (h0 : ∀ p, 0 ≤ a p) (k p : Fin n) :
    struck a k.val p ≤ struck a k.val (place a k) := by
  have hk : struck a k.val (place a k) = a (place a k) := by
    unfold struck; rw [rank_place, if_neg (lt_irrefl _)]
  rw [hk]
  by_cases h : (rank a p).val < k.val
  · unfold struck; rw [if_pos h]
    exact (strike_neg _).le.trans (h0 _)
  · unfold struck; rw [if_neg h]
    rcases eq_or_lt_of_le (not_lt.mp h) with e | e
    · rw [(rank_eq_iff a p k).1 (Fin.ext e.symm)]
    · have := place_ahead a (show k < rank a p from e)
      rw [place_rank] at this
      rcases this with h | h
      · exact h.le
      · exact h.1.ge

/-- … and of those equal to it, it is the first. -/
theorem struck_first {n : Nat} (a : Fin n → EReal) (h0 : ∀ p, 0 ≤ a p) (k p : Fin n)
    (hp : ∀ q, struck a k.val q ≤ struck a k.val p) : place a k ≤ p := by
  have hk : struck a k.val (place a k) = a (place a k) := by
    unfold struck; rw [rank_place, if_neg (lt_irrefl _)]
  have h1 := hp (place a k)
  rw [hk] at h1
  by_cases h : (rank a p).val < k.val
  · unfold struck at h1; rw [if_pos h] at h1
    exact absurd ((h0 _).trans h1) (not_le.mpr (strike_neg _))
  · unfold struck at h1; rw [if_neg h] at h1
    rcases eq_or_lt_of_le (not_lt.mp h) with e | e
    · exact ((rank_eq_iff a p k).1 (Fin.ext e.symm)).ge
    · have := place_ahead a (show k < rank a p from e)
      rw [place_rank] at this
      rcases this with h | h
      · exact absurd h (not_lt.mpr h1)
      · exact h.2.le

/-- After ten strikes the negative entries are those of the first ten ranks. -/
theorem struck_neg_iff {n : Nat} (a : Fin n → EReal) (h0 : ∀ p, 0 ≤ a p) (k : Nat) (p : Fin n) :
    struck a k p < 0 ↔ (rank a p).val < k := by
  unfold struck
  by_cases h : (rank a p).val < k
  · rw [if_pos h]; exact ⟨fun _ => h, fun _ => strike_neg _⟩
  · rw [if_neg h]; exact ⟨fun h' => absurd h' (not_lt.mpr (h0 p)), fun h' => absurd h' h⟩

/-- The entries above `-5.5` and below zero are those of the first five ranks. -/
theorem struck_half_iff {n : Nat} (a : Fin n → EReal) (h0 : ∀ p, 0 ≤ a p) (p : Fin n) :
    (((-(11 / 2) : ℝ) : EReal) < struck a 10 p ∧ struck a 10 p < 0) ↔ (rank a p).val < 5 := by
  rw [struck_neg_iff a h0]
  constructor
  · rintro ⟨h1, h2⟩
    unfold struck at h1; rw [if_pos h2, EReal.coe_lt_coe_iff] at h1
    by_contra h
    have : (5 : ℝ) ≤ ((rank a p).val : ℝ) := by exact_mod_cast not_lt.mp h
    linarith
  · intro h
    refine ⟨?_, by omega⟩
    unfold struck; rw [if_pos (by omega), EReal.coe_lt_coe_iff]
    have : ((rank a p).val : ℝ) ≤ 4 := by exact_mod_cast (by omega : (rank a p).val ≤ 4)
    linarith

end Cert.Relation

end
-- ==== Proof.Spec.lean ====
/- The relational loss in plain mathematics: both programs are read as this. -/
module

public import proofs.«01_k».proof.Proof.Order

@[expose] public section

noncomputable section

open scoped BigOperators

namespace Cert.Relation

open Idealize.ShloMosaic

/-- A family of points: 1024 rows of 64 coordinates. -/
abbrev Points : Type := Fin 1024 → Fin 64 → EReal

/-- Row `i` scaled to length one (a row shorter than the guard is divided by the guard). -/
def unit (x : Points) : Points := fun i k =>
  Ideal.div (x i k) (max (Ideal.sqrt (∑ q, x i q * x i q)) (Ideal.ofBits .f32 0x2B8CBCCC#32))

/-- The squared distance of two rows, clamped at zero. -/
def gap (x : Points) (i j : Fin 1024) : EReal :=
  max ((∑ q, x i q * x i q) + (∑ q, x j q * x j q) - Ideal.ofBits .f32 0x40000000#32 * ∑ q, x i q * x j q) 0

/-- The distance of two rows of the scaled points. -/
def far (s : Points) (i j : Fin 1024) : EReal := Ideal.sqrt (gap (unit s) i j)

/-- The mean distance of row `i` to all rows. -/
def mean (s : Points) (i : Fin 1024) : EReal := Ideal.div (∑ j, far s i j) (Ideal.ofBits .f32 0x44800000#32)

/-- The similarity of two rows of the scaled points. -/
def near (t : Points) (i j : Fin 1024) : EReal := Ideal.exp (0 - gap (unit t) i j)

/-- The similarity with `1` between rows of one identity: what is ranked. -/
def seen (t : Points) (idx : Fin 1024 → BitVec 32) (i j : Fin 1024) : EReal := if idx i = idx j then 1 else near t i j

/-- `j` is one of the `k` greatest of row `i`. -/
def Top (a : Fin 1024 → Fin 1024 → EReal) (k : Nat) (i j : Fin 1024) : Prop := (rank (a i) j).val < k

instance (a : Fin 1024 → Fin 1024 → EReal) (k : Nat) (i j : Fin 1024) : Decidable (Top a k i j) :=
  inferInstanceAs (Decidable ((rank (a i) j).val < k))

/-- Rows that are among each other's ten greatest. -/
def both (a : Fin 1024 → Fin 1024 → EReal) (i j : Fin 1024) : ℝ := if Top a 10 i j ∧ Top a 10 j i then 1 else 0

/-- The number of rows mutual with row `i`. -/
def deg (a : Fin 1024 → Fin 1024 → EReal) (i : Fin 1024) : ℝ := ∑ j, both a i j

/-- The mutual rows two rows share, kept where they are mutual themselves. -/
def shared (a : Fin 1024 → Fin 1024 → EReal) (i j : Fin 1024) : ℝ := both a i j * ∑ q, both a i q * both a j q

/-- The context similarity: the shared counts of the five greatest of row `i`, averaged. -/
def context (a : Fin 1024 → Fin 1024 → EReal) (i j : Fin 1024) : ℝ :=
  (∑ c, if Top a 5 i c then shared a c j / max (deg a c) 1 else 0) / 5

/-- The weight of a pair of rows: half its similarity and half its context similarity made symmetric. -/
def weight (t : Points) (idx : Fin 1024 → BitVec 32) (i j : Fin 1024) : ℝ :=
  (near t i j).toReal / 2 + (context (seen t idx) i j + context (seen t idx) j i) / 4

/-- One pair's pull and push at the relative distance `d` under the weight `w`. -/
def pull (d : EReal) (w : ℝ) : EReal := d * d * (w : EReal)
def push (d : EReal) (w : ℝ) : EReal := max (1 - d) 0 * max (1 - d) 0 * ((1 - w : ℝ) : EReal)

/-- The distance of a pair relative to the row's mean. -/
def relative (s : Points) (i j : Fin 1024) : EReal := Ideal.div (far s i j) (mean s i)

/-- The loss: the pulls and pushes of all pairs of different rows, averaged. -/
def loss (s t : Points) (idx : Fin 1024 → BitVec 32) : EReal :=
  Ideal.div (∑ i, ∑ j, if i = j then 0
    else pull (relative s i j) (weight t idx i j) + push (relative s i j) (weight t idx i j)) (Ideal.ofBits .f32 0x497FC000#32)

/-! ## Values of the printed constants -/

/-- A single-precision pattern with a nonzero exponent field `e` below 255 denotes `±(2^23 + f) · 2^(e - 150)`. -/
theorem bits_value (b : BitVec 32) (neg : Bool) (e f : Nat) (h1 : (b.extractLsb' (8 + 23) 1 == 1#1) = neg)
    (h2 : (b.extractLsb' 23 8).toNat = e) (h3 : (b.extractLsb' 0 23).toNat = f) (he : e ≠ 2 ^ 8 - 1) (he' : e ≠ 0) :
    Ideal.ofBits .f32 b = (((if neg then -1 else 1) * (2 ^ 23 + f : Nat) * (2 : ℝ) ^ ((e : Int) - (2 ^ (8 - 1) - 1) - 23) : ℝ) : EReal) := by
  show Ideal.ieee 8 23 b = _
  unfold Ideal.ieee
  dsimp only
  rw [h1, h2, h3, if_neg he, if_neg he']
  rfl

/-- The word that denotes `1`. -/
theorem one_bits : Ideal.ofBits .f32 0x3F800000#32 = ((1 : ℝ) : EReal) := by
  rw [bits_value _ false 127 0 (by decide) (by decide) (by decide) (by decide) (by decide)]; norm_num
/-- The word that denotes `2`. -/
theorem two_bits : Ideal.ofBits .f32 0x40000000#32 = ((2 : ℝ) : EReal) := by
  rw [bits_value _ false 128 0 (by decide) (by decide) (by decide) (by decide) (by decide)]; norm_num
/-- The word that denotes `1/2`. -/
theorem half_bits : Ideal.ofBits .f32 0x3F000000#32 = ((1 / 2 : ℝ) : EReal) := by
  rw [bits_value _ false 126 0 (by decide) (by decide) (by decide) (by decide) (by decide)]; norm_num
/-- The word that denotes `5`. -/
theorem five_bits : Ideal.ofBits .f32 0x40A00000#32 = ((5 : ℝ) : EReal) := by
  rw [bits_value _ false 129 2097152 (by decide) (by decide) (by decide) (by decide) (by decide)]; norm_num
/-- The word that denotes `-1`. -/
theorem m1_bits : Ideal.ofBits .f32 0xBF800000#32 = ((-(((0 : ℕ) : ℝ) + 1) : ℝ) : EReal) := by
  rw [bits_value _ true 127 0 (by decide) (by decide) (by decide) (by decide) (by decide)]; norm_num
/-- The word that denotes `-2`. -/
theorem m2_bits : Ideal.ofBits .f32 0xC0000000#32 = ((-(((1 : ℕ) : ℝ) + 1) : ℝ) : EReal) := by
  rw [bits_value _ true 128 0 (by decide) (by decide) (by decide) (by decide) (by decide)]; norm_num
/-- The word that denotes `-3`. -/
theorem m3_bits : Ideal.ofBits .f32 0xC0400000#32 = ((-(((2 : ℕ) : ℝ) + 1) : ℝ) : EReal) := by
  rw [bits_value _ true 128 4194304 (by decide) (by decide) (by decide) (by decide) (by decide)]; norm_num
/-- The word that denotes `-4`. -/
theorem m4_bits : Ideal.ofBits .f32 0xC0800000#32 = ((-(((3 : ℕ) : ℝ) + 1) : ℝ) : EReal) := by
  rw [bits_value _ true 129 0 (by decide) (by decide) (by decide) (by decide) (by decide)]; norm_num
/-- The word that denotes `-5`. -/
theorem m5_bits : Ideal.ofBits .f32 0xC0A00000#32 = ((-(((4 : ℕ) : ℝ) + 1) : ℝ) : EReal) := by
  rw [bits_value _ true 129 2097152 (by decide) (by decide) (by decide) (by decide) (by decide)]; norm_num
/-- The word that denotes `-6`. -/
theorem m6_bits : Ideal.ofBits .f32 0xC0C00000#32 = ((-(((5 : ℕ) : ℝ) + 1) : ℝ) : EReal) := by
  rw [bits_value _ true 129 4194304 (by decide) (by decide) (by decide) (by decide) (by decide)]; norm_num
/-- The word that denotes `-7`. -/
theorem m7_bits : Ideal.ofBits .f32 0xC0E00000#32 = ((-(((6 : ℕ) : ℝ) + 1) : ℝ) : EReal) := by
  rw [bits_value _ true 129 6291456 (by decide) (by decide) (by decide) (by decide) (by decide)]; norm_num
/-- The word that denotes `-8`. -/
theorem m8_bits : Ideal.ofBits .f32 0xC1000000#32 = ((-(((7 : ℕ) : ℝ) + 1) : ℝ) : EReal) := by
  rw [bits_value _ true 130 0 (by decide) (by decide) (by decide) (by decide) (by decide)]; norm_num
/-- The word that denotes `-9`. -/
theorem m9_bits : Ideal.ofBits .f32 0xC1100000#32 = ((-(((8 : ℕ) : ℝ) + 1) : ℝ) : EReal) := by
  rw [bits_value _ true 130 1048576 (by decide) (by decide) (by decide) (by decide) (by decide)]; norm_num
/-- The word that denotes `-10`. -/
theorem m10_bits : Ideal.ofBits .f32 0xC1200000#32 = ((-(((9 : ℕ) : ℝ) + 1) : ℝ) : EReal) := by
  rw [bits_value _ true 130 2097152 (by decide) (by decide) (by decide) (by decide) (by decide)]; norm_num
/-- The word that denotes `-5.5`. -/
theorem m5h_bits : Ideal.ofBits .f32 0xC0B00000#32 = ((-(11 / 2) : ℝ) : EReal) := by
  rw [bits_value _ true 129 3145728 (by decide) (by decide) (by decide) (by decide) (by decide)]; norm_num

/-! ## Real arithmetic inside the extended reals -/

/-- A finite sum of reals, read among the extended reals. -/
theorem coe_sum {ι : Type} (E : Finset ι) (f : ι → ℝ) : ∑ i ∈ E, ((f i : ℝ) : EReal) = ((∑ i ∈ E, f i : ℝ) : EReal) := by
  classical
  induction E using Finset.induction_on with
  | empty => simp
  | insert a E h ih => rw [Finset.sum_insert h, Finset.sum_insert h, ih, EReal.coe_add]

/-- Division of reals by a real that is not zero. -/
theorem div_coe (x y : ℝ) (hy : y ≠ 0) : Ideal.div (x : EReal) (y : EReal) = ((x / y : ℝ) : EReal) := by
  unfold Ideal.div
  rw [if_neg (by rw [← EReal.coe_zero, EReal.coe_eq_coe_iff]; exact hy), ← EReal.coe_inv, ← EReal.coe_mul]
  rfl

/-- The greater of two reals. -/
theorem max_coe (x y : ℝ) : max (x : EReal) (y : EReal) = ((max x y : ℝ) : EReal) :=
  (EReal.coe_strictMono.monotone.map_max).symm

/-! ## Signs and finiteness -/

/-- A squared distance is not negative. -/
theorem gap_nonneg (x : Points) (i j : Fin 1024) : 0 ≤ gap x i j := le_max_right _ _

/-- The square root at a real number that is not negative. -/
theorem sqrt_coe (r : ℝ) (h : 0 ≤ r) : Ideal.sqrt (r : EReal) = ((Real.sqrt r : ℝ) : EReal) := if_neg (not_lt.mpr h)
/-- The exponential at a real number. -/
theorem exp_coe (r : ℝ) : Ideal.exp (r : EReal) = ((Real.exp r : ℝ) : EReal) := rfl

/-- The square root of something not negative is not negative. -/
theorem sqrt_nonneg (x : EReal) (h : 0 ≤ x) : 0 ≤ Ideal.sqrt x := by
  induction x with
  | bot => exact absurd h (by simp)
  | top => exact le_top
  | coe r =>
    have hr : 0 ≤ r := by exact_mod_cast h
    rw [sqrt_coe r hr]
    exact_mod_cast Real.sqrt_nonneg r

/-- The square root of something not negative, squared, is it again. -/
theorem sqrt_sq (x : EReal) (h : 0 ≤ x) : Ideal.sqrt x * Ideal.sqrt x = x := by
  induction x with
  | bot => exact absurd h (by simp)
  | top => exact EReal.top_mul_top
  | coe r =>
    have hr : 0 ≤ r := by exact_mod_cast h
    rw [sqrt_coe r hr, ← EReal.coe_mul, Real.mul_self_sqrt hr]

/-- A distance is not negative. -/
theorem far_nonneg (s : Points) (i j : Fin 1024) : 0 ≤ far s i j := sqrt_nonneg _ (gap_nonneg _ i j)

/-- A similarity is a real number. -/
theorem near_coe (t : Points) (i j : Fin 1024) : (((near t i j).toReal : ℝ) : EReal) = near t i j := by
  have h := gap_nonneg (unit t) i j
  unfold near
  generalize gap (unit t) i j = g at h
  induction g with
  | bot => exact absurd h (by simp)
  | top => rw [zero_sub, EReal.neg_top]
           show (((0 : EReal).toReal : ℝ) : EReal) = 0
           rw [EReal.toReal_zero, EReal.coe_zero]
  | coe r => rw [zero_sub, ← EReal.coe_neg]; rfl

/-- A similarity is not negative. -/
theorem near_nonneg (t : Points) (i j : Fin 1024) : 0 ≤ near t i j := by
  have h := gap_nonneg (unit t) i j
  unfold near
  generalize gap (unit t) i j = g at h
  induction g with
  | bot => exact absurd h (by simp)
  | top => rw [zero_sub, EReal.neg_top]; exact le_refl (0 : EReal)
  | coe r => rw [zero_sub, ← EReal.coe_neg]
             show (0 : EReal) ≤ ((Real.exp (-r) : ℝ) : EReal)
             exact_mod_cast (Real.exp_pos _).le

/-- What is ranked is not negative. -/
theorem seen_nonneg (t : Points) (idx : Fin 1024 → BitVec 32) (i j : Fin 1024) : 0 ≤ seen t idx i j := by
  unfold seen; split
  · exact zero_le_one
  · exact near_nonneg t i j

/-! ## Symmetry -/

/-- Being mutual is symmetric. -/
theorem both_comm (a : Fin 1024 → Fin 1024 → EReal) (i j : Fin 1024) : both a i j = both a j i := by
  unfold both; simp only [and_comm]

/-- Shared counts are symmetric. -/
theorem shared_comm (a : Fin 1024 → Fin 1024 → EReal) (i j : Fin 1024) : shared a i j = shared a j i := by
  unfold shared
  rw [both_comm a i j]
  refine congrArg _ (Finset.sum_congr rfl fun q _ => mul_comm _ _)

end Cert.Relation

end
-- ==== Proof.Layout.lean ====
/- Reductions, products and layout operations of the two programs read at an index. -/
module

public import proofs.«01_k».proof.Proof.Spec
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

open scoped BigOperators

namespace Cert.Relation

open Idealize.ShloMosaic Idealize.ShloMosaic.ValueIdx

/-- The sum of each row of a matrix. -/
theorem sum_rows {n m : Nat} (x : FVec Ideal ⟨2, ![n, m]⟩ .f32) (h : (⟨2, ![n, m]⟩ : Shape).Reduces [1] ⟨1, ![n]⟩)
    (hφ : FKind.Formats .f32) (hacc : (0x00000000#32 : BitVec 32) = 0x00000000#32) (i : Fin n) :
    multiReduction .add [1] ⟨1, ![n]⟩ x 0x00000000#32 h hφ hacc (ix1 i) = ∑ k : Fin m, x (ix2 i k) := by
  refine (Ideal.multiReduction_add_single x _ h hφ hacc (ix1 i)).trans ?_
  exact Finset.sum_congr rfl fun k _ => congrArg x (funext fun a => Fin.ext (by match a with | ⟨0, _⟩ => rfl | ⟨1, _⟩ => rfl))

/-- The sum of each column of a matrix. -/
theorem sum_cols {n m : Nat} (x : FVec Ideal ⟨2, ![n, m]⟩ .f32) (h : (⟨2, ![n, m]⟩ : Shape).Reduces [0] ⟨1, ![m]⟩)
    (hφ : FKind.Formats .f32) (hacc : (0x00000000#32 : BitVec 32) = 0x00000000#32) (i : Fin m) :
    multiReduction .add [0] ⟨1, ![m]⟩ x 0x00000000#32 h hφ hacc (ix1 i) = ∑ k : Fin n, x (ix2 k i) := by
  refine (Ideal.multiReduction_add_single x _ h hφ hacc (ix1 i)).trans ?_
  exact Finset.sum_congr rfl fun k _ => congrArg x (funext fun a => Fin.ext (by match a with | ⟨0, _⟩ => rfl | ⟨1, _⟩ => rfl))

/-- A column spread over a matrix reads the column's entry of the row. -/
theorem spread_column {α : Type} {n m : Nat} (hn : n ≠ 1) (v : (⟨2, ![n, 1]⟩ : Shape).Idx → α)
    (h : (⟨2, ![n, 1]⟩ : Shape).Broadcasts ⟨2, ![n, m]⟩) (i : Fin n) (j : Fin m) :
    broadcastTo ⟨2, ![n, m]⟩ v h (ix2 i j) = v (ix2 i 0) :=
  broadcastTo_apply v h (ix2 i j) (ix2 i 0) (fun a => match a with
    | ⟨0, _⟩ => (if_neg hn).symm
    | ⟨1, _⟩ => (if_pos rfl).symm)

/-- A transposed matrix reads the matrix at the exchanged index. -/
theorem transpose_at {α : Type} {a b : Nat} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) :=
  transpose_apply [1, 0] x h (ix2 i j) (ix2 j i) (fun c => match c with | ⟨0, _⟩ => rfl | ⟨1, _⟩ => rfl)

/-- A matrix cast to the same shape is unchanged. -/
theorem shapeCast_same {α : Type} {s : Shape} (x : s.Idx → α) (h : s.ShapeCasts s) (i : s.Idx) :
    shapeCast s x h i = x i := shapeCast_apply x h i i rfl

/-- The product of a matrix with a transposed one, from zero: the sums of products of rows. -/
theorem matmul_rows {n m : Nat} {φ₁ φ₂ : FTy} (d : DotDims ⟨2, ![n, m]⟩ ⟨2, ![n, m]⟩ ⟨2, ![n, n]⟩)
    (hd : d = DotDims.transposedRhs n m n) (x : FVec Ideal ⟨2, ![n, m]⟩ φ₁) (y : FVec Ideal ⟨2, ![n, m]⟩ φ₂) (i j : Fin n) :
    matmul d none x y (constant ⟨2, ![n, n]⟩ .f32 0x00000000#32) (ix2 i j) = ∑ k : Fin m, x (ix2 i k) * y (ix2 j k) := by
  subst hd
  show FloatOps.matmul _ none x y _ (ix2 i j) = _
  rw [Ideal.matmul_transposedRhs_apply]
  show Ideal.ofBits .f32 0x00000000#32 + _ = _
  rw [Ideal.ofBits_zero_f32, zero_add]

/-- A comparison's bit turned into a number: one where it holds, else zero. -/
theorem bit_number (p : Prop) [Decidable p] :
    (FloatOps.sitofp (F := Ideal) .f32 ((BitVec.ofBool (decide p)).setWidth 32) : EReal) = (((if p then 1 else 0 : ℝ)) : EReal) := by
  have h1 : ((BitVec.ofBool true).setWidth 32 : BitVec 32).toInt = 1 := by decide
  have h0 : ((BitVec.ofBool false).setWidth 32 : BitVec 32).toInt = 0 := by decide
  by_cases hp : p
  · rw [decide_eq_true hp, if_pos hp]
    show (((((BitVec.ofBool true).setWidth 32 : BitVec 32).toInt : ℝ)) : EReal) = _
    rw [h1, Int.cast_one]
  · rw [decide_eq_false hp, if_neg hp]
    show (((((BitVec.ofBool false).setWidth 32 : BitVec 32).toInt : ℝ)) : EReal) = _
    rw [h0, Int.cast_zero]

end Cert.Relation

end
-- ==== Proof.Strike.lean ====
/- One masking step of the kernel: find the greatest entry of each row and overwrite it. -/
module

public import proofs.«01_k».proof.Proof.Layout
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Cert.Relation

open Idealize.ShloMosaic Idealize.ShloMosaic.ValueIdx

/-- The square matrices' shape. -/
abbrev Sq : Shape := ⟨2, ![1024, 1024]⟩

/-- The shape of one entry per row. -/
abbrev Ln : Shape := ⟨1, ![1024]⟩

/-- The shape of one column. -/
abbrev Cl : Shape := ⟨2, ![1024, 1]⟩

/-- Row `i` of a square matrix. -/
def row (x : FVec Ideal Sq .f32) (i : Fin 1024) : Fin 1024 → EReal := fun j => x (ix2 i j)

/-- Dropping the second coordinate of an index leaves the first. -/
theorem drop_row (h : Sq.Reduces [1] Ln) (y : Sq.Idx) (i : Fin 1024) :
    h.drop y = ix1 i ↔ y 0 = i := by
  have hv : (h.drop y 0 : Nat) = y 0 := h.drop_apply_val_of_eq y 0 0
  constructor
  · intro e
    rw [e] at hv
    exact Fin.ext hv.symm
  · intro e
    rw [eq_ix1 (h.drop y)]
    exact congrArg ix1 (Fin.ext (hv.trans (congrArg Fin.val e)))

/-- Membership in a filtered set, for any way of deciding the condition. -/
theorem mem_kept {ι : Type} (p : ι → Prop) (D : DecidablePred p) (E : Finset ι) (a : ι) :
    a ∈ @Finset.filter ι p D E ↔ a ∈ E ∧ p a := Finset.mem_filter

/-- The least member of a set of numbers, read with a default. -/
theorem least_getD (E : Finset Nat) (m : Nat) (h : m ∈ E) (hle : ∀ n ∈ E, m ≤ n) : E.min.getD 0 = m := by
  have e : E.min = (m : WithTop Nat) :=
    le_antisymm (Finset.min_le h) (Finset.le_min fun n hn => WithTop.coe_le_coe.mpr (hle n hn))
  rw [e]; rfl

/-- The arg-max of a row is the place `m` if the entry there is greatest and no earlier one equals it. -/
theorem argMax_row (h : Sq.Reduces [1] Ln) (x : FVec Ideal Sq .f32) (i m : Fin 1024)
    (hm : ∀ j, row x i j ≤ row x i m) (hf : ∀ j, (∀ q, row x i q ≤ row x i j) → m ≤ j) :
    reduceIndex .argMax 1 Ln x h (ix1 i) = BitVec.ofNat 32 m.val := by
  show Ideal.reduceIndex .argMax 1 h x (ix1 i) = _
  unfold Ideal.reduceIndex
  refine congrArg (BitVec.ofNat 32) (least_getD _ m.val ?_ ?_)
  · rw [Finset.mem_image]
    refine ⟨ix2 i m, ?_, rfl⟩
    refine (mem_kept _ _ _ _).2 ⟨(mem_kept _ _ _ _).2 ⟨Finset.mem_univ _, (drop_row h _ i).2 rfl⟩, fun y hy => ?_⟩
    have hy := (drop_row h y i).1 ((mem_kept _ _ _ _).1 hy).2
    show ¬ x (ix2 i m) < x y
    rw [not_lt, eq_ix2 y, hy]
    exact hm (y 1)
  · intro n hn
    rw [Finset.mem_image] at hn
    obtain ⟨y, hy, rfl⟩ := hn
    have hy1 := ((mem_kept _ _ _ _).1 hy).2
    have hy0 := (drop_row h y i).1 ((mem_kept _ _ _ _).1 ((mem_kept _ _ _ _).1 hy).1).2
    refine Fin.le_def.1 (hf (y 1) fun q => ?_)
    have : ¬ x y < x (ix2 i q) := hy1 (ix2 i q) ((mem_kept _ _ _ _).2 ⟨Finset.mem_univ _, (drop_row h _ i).2 rfl⟩)
    rw [not_lt, eq_ix2 y, hy0] at this
    exact this

/-- One masking step: in each row the first greatest entry is overwritten by `c`. -/
def strike (w : IVec Sq 32) (c : BitVec 32) (x : FVec Ideal Sq .f32)
    (hr : Sq.Reduces [1] Ln) (hc : Ln.ShapeCasts Cl) (hb : Cl.Broadcasts Sq) : FVec Ideal Sq .f32 :=
  select (cmpi .eq w (broadcastTo Sq (shapeCast Cl (reduceIndex .argMax 1 Ln x hr) hc) hb))
    (broadcast Sq (Scalar.ofBits (F := Ideal) .f32 c)) x

/-- Two numbers below `1024` are equal as words exactly if they are equal. -/
theorem ofNat_inj (p q : Fin 1024) : BitVec.ofNat 32 p.val = BitVec.ofNat 32 q.val ↔ p = q := by
  constructor
  · intro h
    have := congrArg BitVec.toNat h
    simp only [BitVec.toNat_ofNat] at this
    exact Fin.ext (by omega)
  · rintro rfl; rfl

/-- The step after `k` steps strikes out the entry ranked `k`. -/
theorem strike_struck (w : IVec Sq 32) (hw : ∀ i j : Fin 1024, w (ix2 i j) = BitVec.ofNat 32 j.val)
    (c : BitVec 32) (x : FVec Ideal Sq .f32) (hr : Sq.Reduces [1] Ln) (hc : Ln.ShapeCasts Cl) (hb : Cl.Broadcasts Sq)
    (a : Fin 1024 → Fin 1024 → EReal) (h0 : ∀ i j, 0 ≤ a i j) (k : Nat) (hk : k < 1024)
    (hcv : Ideal.ofBits .f32 c = ((-((k : ℝ) + 1) : ℝ) : EReal))
    (hx : ∀ i j, x (ix2 i j) = struck (a i) k j) (i j : Fin 1024) :
    strike w c x hr hc hb (ix2 i j) = struck (a i) (k + 1) j := by
  have hrow : row x i = struck (a i) k := funext fun j => hx i j
  have hA : reduceIndex .argMax 1 Ln x hr (ix1 i) = BitVec.ofNat 32 (place (a i) ⟨k, hk⟩).val := by
    refine argMax_row hr x i _ ?_ ?_
    · rw [hrow]; exact struck_le (a i) (h0 i) ⟨k, hk⟩
    · rw [hrow]; exact fun p hp => struck_first (a i) (h0 i) ⟨k, hk⟩ p hp
  rw [struck_succ (a i) ⟨k, hk⟩ j]
  unfold strike
  rw [select_apply]
  have hcmp : cmpi .eq w (broadcastTo Sq (shapeCast Cl (reduceIndex .argMax 1 Ln x hr) hc) hb) (ix2 i j)
      = BitVec.ofBool (decide (j = place (a i) ⟨k, hk⟩)) := by
    show IntOp.cmpi .eq (w (ix2 i j)) _ = _
    rw [spread_column (by decide), shapeCast_a_a1_apply, hA, hw]
    simp [IntOp.cmpi, ← ofNat_inj, BEq.beq]
  rw [hcmp]
  by_cases e : j = place (a i) ⟨k, hk⟩
  · rw [if_pos e, decide_eq_true e]; exact hcv
  · rw [if_neg e, decide_eq_false e]; exact hx i j

end Cert.Relation

end
-- ==== Proof.KernelRank.lean ====
/- The kernel's distances, similarities and ranks, as the plain mathematics names them. -/
module

public import proofs.«01_k».proof.Proof.Layout
public import proofs.«01_k».proof.Proof.Strike
public import proofs.«01_k».proof.Proof.Gen.KernelIdeal.Skeleton

@[expose] public section

noncomputable section

open scoped BigOperators

namespace Cert.Relation

open Idealize.ShloMosaic Idealize.ShloMosaic.ValueIdx Cert.KernelIdeal Cert.KernelIdeal.Gen

/-- An array of points as its rows. -/
def pts (x : FVec Ideal ⟨2, ![1024, 64]⟩ .f32) : Points := fun i k => x (ix2 i k)

/-- The teacher's points, scaled. -/
theorem pay2_at (x : FVec Ideal S1024x64 .f32) (i : Fin 1024) (k : Fin 64) :
    k0_pay2 (F := Ideal) x (ix2 i k) = unit (pts x) i k := by
  unfold k0_pay2
  dsimp only
  show Ideal.div (x (ix2 i k)) _ = _
  rw [spread_column (by decide)]
  show Ideal.div (x (ix2 i k)) (max (Ideal.sqrt _) (Ideal.ofBits .f32 0x2B8CBCCC#32)) = _
  rw [shapeCast_a_a1_apply, sum_rows]
  rfl

/-- The sums of squares of the scaled teacher's rows, in a column. -/
theorem pay5_at (x : FVec Ideal S1024x64 .f32) (i : Fin 1024) :
    k0_pay5 (F := Ideal) x (ix2 i 0) = ∑ q, unit (pts x) i q * unit (pts x) i q := by
  unfold k0_pay5
  dsimp only
  rw [shapeCast_a_a1_apply, sum_rows]
  refine Finset.sum_congr rfl fun q _ => ?_
  show k0_pay2 (F := Ideal) x (ix2 i q) * k0_pay2 (F := Ideal) x (ix2 i q) = _
  rw [pay2_at]

/-- The same in a row. -/
theorem pay7_at (x : FVec Ideal S1024x64 .f32) (i : Fin 1024) :
    k0_pay7 (F := Ideal) x (ix2 0 i) = ∑ q, unit (pts x) i q * unit (pts x) i q := by
  unfold k0_pay7
  dsimp only
  rw [transpose_at, pay5_at]

/-- The products of the scaled teacher's rows. -/
theorem pay6_at (x : FVec Ideal S1024x64 .f32) (i j : Fin 1024) :
    k0_pay6 (F := Ideal) x (ix2 i j) = ∑ q, unit (pts x) i q * unit (pts x) j q := by
  unfold k0_pay6
  refine (matmul_rows dot_S1024x64_S1024x64_S1024x1024_1_1_0_0_n_n rfl _ _ i j).trans ?_
  exact Finset.sum_congr rfl fun q _ => by rw [pay2_at, pay2_at]

/-- The teacher's similarities. -/
theorem pay8_at (x : FVec Ideal S1024x64 .f32) (i j : Fin 1024) :
    k0_pay8 (F := Ideal) (k0_pay5 x) (k0_pay6 x) (k0_pay7 x) (ix2 i j) = near (pts x) i j := by
  unfold k0_pay8
  show Ideal.exp (Ideal.ofBits .f32 0x00000000#32 - max (_ + _ - Ideal.ofBits .f32 0x40000000#32 * _) (Ideal.ofBits .f32 0x00000000#32)) = _
  rw [spread_column (by decide), broadcastTo_1b_ab_apply, pay5_at, pay6_at, pay7_at, Ideal.ofBits_zero_f32]
  rfl

/-- The student's points, scaled: the kernel scales both families alike. -/
theorem pay3_at (x : FVec Ideal S1024x64 .f32) (i j : Fin 1024) :
    k0_pay3 (F := Ideal) x (ix2 i j) = far (pts x) i j := by
  have e : k0_pay3 (F := Ideal) x = sqrt (maximumf (subf (addf (broadcastTo S1024x1024 (k0_pay5 x) broadcasts_S1024x1_S1024x1024)
      (broadcastTo S1024x1024 (k0_pay7 x) broadcasts_S1x1024_S1024x1024))
      (mulf (broadcast S1024x1024 (Scalar.ofBits .f32 0x40000000#32)) (k0_pay6 x))) (broadcast S1024x1024 (Scalar.ofBits .f32 0x00000000#32))) := rfl
  rw [e]
  show Ideal.sqrt (max (_ + _ - Ideal.ofBits .f32 0x40000000#32 * _) (Ideal.ofBits .f32 0x00000000#32)) = _
  rw [spread_column (by decide), broadcastTo_1b_ab_apply, pay5_at, pay6_at, pay7_at, Ideal.ofBits_zero_f32]
  rfl

/-- The inverse mean distances, in a column. -/
theorem pay4_at (x : FVec Ideal S1024x64 .f32) (i : Fin 1024) :
    k0_pay4 (F := Ideal) x (ix2 i 0) = Ideal.div ((1 : ℝ) : EReal) (mean (pts x) i) := by
  unfold k0_pay4
  dsimp only
  show Ideal.div (Ideal.ofBits .f32 0x3F800000#32) (Ideal.div _ (Ideal.ofBits .f32 0x44800000#32)) = _
  rw [shapeCast_a_a1_apply, sum_rows, one_bits]
  unfold mean
  refine congrArg (fun z => Ideal.div _ (Ideal.div z _)) (Finset.sum_congr rfl fun q _ => pay3_at x i q)

/-- What the kernel ranks: the similarities with `1` at equal identities. -/
def ranked (v40 : FVec Ideal S1024x1 .f32) (v41 : FVec Ideal S1024x1024 .f32) (v42 : FVec Ideal S1x1024 .f32) (v54 : Vec Ideal S1x1024 .i32) :
    FVec Ideal S1024x1024 .f32 :=
  have v56 : FVec Ideal S1x1024 .f32 := sitofp .f32 (shapeCast S1x1024 v54 shapeCasts_S1x1024_S1x1024)
  select (cmpf .oeq
    (broadcastTo S1024x1024 (shapeCast S1024x1 (transpose S1024x1 [1, 0] v56 transposes_S1x1024_p1_0_S1024x1) shapeCasts_S1024x1_S1024x1) broadcasts_S1024x1_S1024x1024)
    (broadcastTo S1024x1024 (shapeCast S1x1024 v56 shapeCasts_S1x1024_S1x1024) broadcasts_S1x1024_S1024x1024))
    (broadcast S1024x1024 (Scalar.ofBits .f32 0x3F800000#32)) (k0_pay8 v40 v41 v42)

/-- Two words are equal as numbers exactly if they are equal. -/
theorem number_inj (p q : BitVec 32) : (FloatOps.sitofp (F := Ideal) .f32 p : EReal) = FloatOps.sitofp (F := Ideal) .f32 q ↔ p = q := by
  show (((p.toInt : ℝ)) : EReal) = ((q.toInt : ℝ) : EReal) ↔ _
  rw [EReal.coe_eq_coe_iff, Int.cast_inj, BitVec.toInt_inj]

/-- The kernel's ranked matrix holds the similarities with `1` between equal identities. -/
theorem ranked_at (x : FVec Ideal S1024x64 .f32) (v : Vec Ideal S1x1024 .i32) (i j : Fin 1024) :
    ranked (k0_pay5 x) (k0_pay6 x) (k0_pay7 x) v (ix2 i j) = seen (pts x) (fun i => v (ix2 0 i)) i j := by
  unfold ranked
  dsimp only
  rw [select_apply, pay8_at, cmpf_apply, spread_column (by decide), broadcastTo_1b_ab_apply, shapeCast_same, shapeCast_same, transpose_at,
    sitofp_apply, sitofp_apply, shapeCast_same, shapeCast_same]
  have hc : FloatOps.cmpf (F := Ideal) (φ := .f32) .oeq (FloatOps.sitofp .f32 (v (ix2 0 i))) (FloatOps.sitofp .f32 (v (ix2 0 j)))
      = BitVec.ofBool (decide (v (ix2 0 i) = v (ix2 0 j))) :=
    congrArg BitVec.ofBool (decide_eq_decide.mpr (number_inj _ _))
  rw [hc]
  unfold seen
  by_cases e : v (ix2 0 i) = v (ix2 0 j)
  · rw [decide_eq_true e, if_pos e]; exact one_bits
  · rw [decide_eq_false e, if_neg e]; rfl

/-- The place numbers along the rows. -/
abbrev places : IVec S1024x1024 32 := iota .tc S1024x1024 32 [1] iota_S1024x1024_d1_w32

/-- The column numbers. -/
theorem places_at (i j : Fin 1024) : places (ix2 i j) = BitVec.ofNat 32 j.val := by
  show BitVec.ofNat 32 _ = _
  congr 1
  first | rfl | simp

/-- The kernel's ten masking steps, as ten strikes. -/
def st (c : BitVec 32) (x : FVec Ideal S1024x1024 .f32) : FVec Ideal S1024x1024 .f32 :=
  strike places c x reduces_S1024x1024_S1024 shapeCasts_S1024_S1024x1 broadcasts_S1024x1_S1024x1024

/-- The ten masking steps, as ten uses of one step. -/
theorem pay11_eq (v40 : FVec Ideal S1024x1 .f32) (v41 : FVec Ideal S1024x1024 .f32) (v42 : FVec Ideal S1x1024 .f32) (v54 : Vec Ideal S1x1024 .i32) :
    k0_pay11 (F := Ideal) places (k0_pay9 v40 v41 v42 v54) (k0_pay10 v40 v41 v42 v54)
      = st 0xC1200000#32 (st 0xC1100000#32 (st 0xC1000000#32 (st 0xC0E00000#32 (st 0xC0C00000#32 (st 0xC0A00000#32
        (st 0xC0800000#32 (st 0xC0400000#32 (st 0xC0000000#32 (st 0xBF800000#32 (ranked v40 v41 v42 v54)))))))))) := rfl

/-- After the ten steps every row has its first ten ranks struck out. -/
theorem pay11_at (x : FVec Ideal S1024x64 .f32) (v : Vec Ideal S1x1024 .i32) (i j : Fin 1024) :
    k0_pay11 (F := Ideal) places (k0_pay9 (k0_pay5 x) (k0_pay6 x) (k0_pay7 x) v) (k0_pay10 (k0_pay5 x) (k0_pay6 x) (k0_pay7 x) v) (ix2 i j)
      = struck (seen (pts x) (fun i => v (ix2 0 i)) i) 10 j := by
  rw [pay11_eq]
  have h0 := seen_nonneg (pts x) (fun i => v (ix2 0 i))
  have one := fun k hk c hc y hy => strike_struck places places_at c y reduces_S1024x1024_S1024 shapeCasts_S1024_S1024x1
    broadcasts_S1024x1_S1024x1024 (seen (pts x) (fun i => v (ix2 0 i))) h0 k hk hc hy
  refine one 9 (by decide) _ m10_bits _ (one 8 (by decide) _ m9_bits _ (one 7 (by decide) _ m8_bits _ (one 6 (by decide) _ m7_bits _
    (one 5 (by decide) _ m6_bits _ (one 4 (by decide) _ m5_bits _ (one 3 (by decide) _ m4_bits _ (one 2 (by decide) _ m3_bits _
    (one 1 (by decide) _ m2_bits _ (one 0 (by decide) _ m1_bits _ ?_))))))))) i j
  intro i j
  rw [struck_zero]
  exact ranked_at x v i j

end Cert.Relation

end
-- ==== Proof.KernelLoss.lean ====
/- The kernel's mutual rows, weights and pulls, and its result as the loss. -/
module

public import proofs.«01_k».proof.Proof.KernelRank

@[expose] public section

noncomputable section

open scoped BigOperators

namespace Cert.Relation

open Idealize.ShloMosaic Idealize.ShloMosaic.ValueIdx Cert.KernelIdeal Cert.KernelIdeal.Gen

section Struck

variable (a : Fin 1024 → Fin 1024 → EReal) (h0 : ∀ i j, 0 ≤ a i j)
  (v65 : IVec S1024x1024 32) (v89 : FVec Ideal S1024x1024 .f32) (v92 : IVec S1024x1024 32)
  (h : ∀ i j : Fin 1024, k0_pay11 (F := Ideal) v65 v89 v92 (ix2 i j) = struck (a i) 10 j)
include h0 h

/-- A struck entry is one of the ten greatest of its row. -/
theorem pay12_at (i j : Fin 1024) : k0_pay12 (F := Ideal) v65 v89 v92 (ix2 i j) = BitVec.ofBool (decide (Top a 10 i j)) := by
  show BitVec.ofBool (decide (k0_pay11 (F := Ideal) v65 v89 v92 (ix2 i j) < Ideal.ofBits .f32 0x00000000#32)) = _
  rw [h, Ideal.ofBits_zero_f32]
  exact congrArg BitVec.ofBool (decide_eq_decide.mpr (struck_neg_iff (a i) (h0 i) 10 j))

/-- An entry struck by a number above `-5.5` is one of the five greatest of its row. -/
theorem pay13_at (i j : Fin 1024) :
    k0_pay13 (F := Ideal) v65 v89 v92 (ix2 i j) = (((if Top a 5 i j then 1 else 0 : ℝ)) : EReal) := by
  show FloatOps.sitofp (F := Ideal) .f32 ((BitVec.ofBool (decide (Ideal.ofBits .f32 0xC0B00000#32 < k0_pay11 (F := Ideal) v65 v89 v92 (ix2 i j)))
    &&& k0_pay12 (F := Ideal) v65 v89 v92 (ix2 i j)).setWidth 32) = _
  rw [← bit_number]
  refine congrArg (fun b : BitVec 1 => FloatOps.sitofp (F := Ideal) .f32 (b.setWidth 32)) ?_
  rw [pay12_at a h0 v65 v89 v92 h, h, m5h_bits]
  have e := struck_half_iff (a i) (h0 i) j
  rw [struck_neg_iff (a i) (h0 i) 10 j] at e
  have and_bool : ∀ p q : Bool, BitVec.ofBool p &&& BitVec.ofBool q = BitVec.ofBool (p && q) := by decide
  rw [and_bool, ← Bool.decide_and]
  exact congrArg BitVec.ofBool (decide_eq_decide.mpr e)

/-- The kernel's mutual rows. -/
theorem pay14_at (i j : Fin 1024) : k0_pay14 (F := Ideal) v65 v89 v92 (ix2 i j) = ((both a i j : ℝ) : EReal) := by
  have one : ∀ i j : Fin 1024, (sitofp (F := Ideal) .f32 (extui 32 (k0_pay12 (F := Ideal) v65 v89 v92) natLt_1_32)) (ix2 i j)
      = (((if Top a 10 i j then 1 else 0 : ℝ)) : EReal) := fun i j => by
    rw [← bit_number, ← pay12_at a h0 v65 v89 v92 h]; rfl
  have e : k0_pay14 (F := Ideal) v65 v89 v92 (ix2 i j)
      = (sitofp (F := Ideal) .f32 (extui 32 (k0_pay12 (F := Ideal) v65 v89 v92) natLt_1_32)) (ix2 i j)
        * transpose S1024x1024 [1, 0] (sitofp (F := Ideal) .f32 (extui 32 (k0_pay12 (F := Ideal) v65 v89 v92) natLt_1_32))
          transposes_S1024x1024_p1_0_S1024x1024 (ix2 i j) := rfl
  rw [e, transpose_at, one, one, ← EReal.coe_mul]
  unfold both
  congr 1
  by_cases p : Top a 10 i j <;> by_cases q : Top a 10 j i <;> simp [p, q]

/-- The kernel's shared counts. -/
theorem pay15_at (i j : Fin 1024) : k0_pay15 (F := Ideal) v65 v89 v92 (ix2 i j) = ((shared a i j : ℝ) : EReal) := by
  have e : k0_pay15 (F := Ideal) v65 v89 v92 (ix2 i j) = k0_pay14 (F := Ideal) v65 v89 v92 (ix2 i j)
      * matmul dot_S1024x1024_S1024x1024_S1024x1024_1_1_0_0_n_n none (k0_pay14 v65 v89 v92) (k0_pay14 v65 v89 v92)
          (constant S1024x1024 .f32 0x00000000#32) (ix2 i j) := rfl
  have f := matmul_rows dot_S1024x1024_S1024x1024_S1024x1024_1_1_0_0_n_n rfl (k0_pay14 (F := Ideal) v65 v89 v92) (k0_pay14 v65 v89 v92) i j
  rw [e, show _ = _ from f]
  simp only [pay14_at a h0 v65 v89 v92 h]
  unfold shared
  rw [EReal.coe_mul, ← coe_sum]
  exact congrArg (_ * ·) (Finset.sum_congr rfl fun q _ => (EReal.coe_mul _ _).symm)

/-- The kernel's numbers of mutual rows: it sums the columns. -/
theorem pay16_at (i : Fin 1024) : k0_pay16 (F := Ideal) v65 v89 v92 (ix1 i) = ((deg a i : ℝ) : EReal) := by
  refine (sum_cols (k0_pay14 (F := Ideal) v65 v89 v92) reduces_S1024x1024_S1024_2 (.inl rfl) rfl i).trans ?_
  unfold deg
  rw [← coe_sum]
  exact Finset.sum_congr rfl fun q _ => by rw [pay14_at a h0 v65 v89 v92 h, both_comm]

end Struck

/-- The kernel's quarter of the context similarity: a product with the scaled five greatest. -/
def mixed (v132 : FVec Ideal S1024x1024 .f32) (v140 : FVec Ideal S1024x1024 .bf16) (v142 : FVec Ideal S1024 .f32) : FVec Ideal S1024x1024 .f32 :=
  matmul dot_S1024x1024_S1024x1024_S1024x1024_1_1_0_0_n_n none
    (truncf .bf16 (mulf v132 (broadcastTo S1024x1024 (divf (broadcast S1x1024 (Named.named κ "twentieth" 0x3D4CCCCD#32))
      (maximumf (shapeCast S1x1024 v142 shapeCasts_S1024_S1x1024) (broadcast S1x1024 (Scalar.ofBits .f32 0x3F800000#32))))
      broadcasts_S1x1024_S1024x1024)) bitsLt_bf16_f32)
    v140 (constant S1024x1024 .f32 0x00000000#32)

/-- The divisor of the shared counts is not zero. -/
theorem one_le_room (a : Fin 1024 → Fin 1024 → EReal) (c : Fin 1024) : max (deg a c) 1 ≠ 0 :=
  (lt_of_lt_of_le one_pos (le_max_right _ _)).ne'

/-- The quarter of the context similarity, at a pair. -/
theorem mixed_at (a : Fin 1024 → Fin 1024 → EReal) (v132 : FVec Ideal S1024x1024 .f32) (v140 : FVec Ideal S1024x1024 .bf16)
    (v142 : FVec Ideal S1024 .f32) (h132 : ∀ i j : Fin 1024, v132 (ix2 i j) = (((if Top a 5 i j then 1 else 0 : ℝ)) : EReal))
    (h140 : ∀ i j : Fin 1024, v140 (ix2 i j) = ((shared a i j : ℝ) : EReal)) (h142 : ∀ i : Fin 1024, v142 (ix1 i) = ((deg a i : ℝ) : EReal))
    (i j : Fin 1024) : mixed v132 v140 v142 (ix2 i j) = ((context a i j / 4 : ℝ) : EReal) := by
  unfold mixed
  refine (matmul_rows dot_S1024x1024_S1024x1024_S1024x1024_1_1_0_0_n_n rfl _ _ i j).trans ?_
  unfold context
  rw [div_div, Finset.sum_div, ← coe_sum]
  refine Finset.sum_congr rfl fun c _ => ?_
  rw [h140]
  show v132 (ix2 i c) * _ * _ = _
  rw [broadcastTo_1b_ab_apply, h132]
  show _ * Ideal.div (((1 / 20 : ℝ)) : EReal) (max (shapeCast S1x1024 v142 shapeCasts_S1024_S1x1024 (ix2 0 c)) (Ideal.ofBits .f32 0x3F800000#32)) * _ = _
  rw [shapeCast_a_1a_apply, h142, one_bits, max_coe, div_coe _ _ (one_le_room a c), ← EReal.coe_mul, ← EReal.coe_mul, shared_comm a j c]
  congr 1
  split
  · field_simp; ring
  · ring

/-- The kernel's weights. -/
def weighed (v53 M : FVec Ideal S1024x1024 .f32) : FVec Ideal S1024x1024 .f32 :=
  addf (addf (mulf (broadcast S1024x1024 (Scalar.ofBits .f32 0x3F000000#32)) v53) M)
    (transpose S1024x1024 [1, 0] M transposes_S1024x1024_p1_0_S1024x1024)

/-- The kernel's weights are the weights. -/
theorem weighed_at (t : Points) (idx : Fin 1024 → BitVec 32) (v53 M : FVec Ideal S1024x1024 .f32)
    (h53 : ∀ i j : Fin 1024, v53 (ix2 i j) = near t i j)
    (hM : ∀ i j : Fin 1024, M (ix2 i j) = ((context (seen t idx) i j / 4 : ℝ) : EReal)) (i j : Fin 1024) :
    weighed v53 M (ix2 i j) = ((weight t idx i j : ℝ) : EReal) := by
  unfold weighed
  show Ideal.ofBits .f32 0x3F000000#32 * v53 (ix2 i j) + M (ix2 i j) + transpose S1024x1024 [1, 0] M transposes_S1024x1024_p1_0_S1024x1024 (ix2 i j) = _
  rw [transpose_at, hM, hM, h53, ← near_coe, half_bits, ← EReal.coe_mul, ← EReal.coe_add, ← EReal.coe_add]
  congr 1
  unfold weight
  ring

/-- The kernel's pulls and pushes, zero at equal rows. -/
def pulled (v31 : FVec Ideal S1024x1024 .f32) (v37 : FVec Ideal S1024x1 .f32) (W : FVec Ideal S1024x1024 .f32) (v65 : IVec S1024x1024 32) :
    FVec Ideal S1024x1024 .f32 :=
  have d : FVec Ideal S1024x1024 .f32 := mulf v31 (broadcastTo S1024x1024 v37 broadcasts_S1024x1_S1024x1024)
  have g : FVec Ideal S1024x1024 .f32 := maximumf (subf (broadcast S1024x1024 (Scalar.ofBits .f32 0x3F800000#32)) d)
    (broadcast S1024x1024 (Scalar.ofBits .f32 0x00000000#32))
  mulf (addf (mulf (mulf d d) W) (mulf (mulf g g) (subf (broadcast S1024x1024 (Scalar.ofBits .f32 0x3F800000#32)) W)))
    (sitofp .f32 (extui 32 (cmpi .ne (iota .tc S1024x1024 32 [0] iota_S1024x1024_d0_w32) v65) natLt_1_32))

/-- The kernel's pulls and pushes are the loss's summands. -/
theorem pulled_at (s t : Points) (idx : Fin 1024 → BitVec 32) (hs : ∀ i, mean s i ≠ 0)
    (v31 : FVec Ideal S1024x1024 .f32) (v37 : FVec Ideal S1024x1 .f32) (W : FVec Ideal S1024x1024 .f32)
    (h31 : ∀ i j : Fin 1024, v31 (ix2 i j) = far s i j)
    (h37 : ∀ i : Fin 1024, v37 (ix2 i 0) = Ideal.div ((1 : ℝ) : EReal) (mean s i))
    (hW : ∀ i j : Fin 1024, W (ix2 i j) = ((weight t idx i j : ℝ) : EReal)) (i j : Fin 1024) :
    pulled v31 v37 W places (ix2 i j)
      = if i = j then 0 else pull (relative s i j) (weight t idx i j) + push (relative s i j) (weight t idx i j) := by
  have hd : mulf v31 (broadcastTo S1024x1024 v37 broadcasts_S1024x1_S1024x1024) (ix2 i j) = relative s i j := by
    show v31 (ix2 i j) * _ = _
    rw [spread_column (by decide), h31, h37]
    unfold relative Ideal.div
    rw [if_neg (hs i), if_neg (hs i), EReal.coe_one, one_mul]
  unfold pulled
  dsimp only
  show (mulf v31 (broadcastTo S1024x1024 v37 broadcasts_S1024x1_S1024x1024) (ix2 i j) * mulf v31 (broadcastTo S1024x1024 v37 broadcasts_S1024x1_S1024x1024) (ix2 i j) * W (ix2 i j)
    + max (Ideal.ofBits .f32 0x3F800000#32 - mulf v31 (broadcastTo S1024x1024 v37 broadcasts_S1024x1_S1024x1024) (ix2 i j)) (Ideal.ofBits .f32 0x00000000#32)
      * max (Ideal.ofBits .f32 0x3F800000#32 - mulf v31 (broadcastTo S1024x1024 v37 broadcasts_S1024x1_S1024x1024) (ix2 i j)) (Ideal.ofBits .f32 0x00000000#32)
      * (Ideal.ofBits .f32 0x3F800000#32 - W (ix2 i j)))
    * FloatOps.sitofp (F := Ideal) .f32 ((BitVec.ofBool (iota .tc S1024x1024 32 [0] iota_S1024x1024_d0_w32 (ix2 i j) != places (ix2 i j))).setWidth 32) = _
  rw [hd, hW, places_at]
  have hr : iota .tc S1024x1024 32 [0] iota_S1024x1024_d0_w32 (ix2 i j) = BitVec.ofNat 32 i.val := by
    show BitVec.ofNat 32 _ = _
    congr 1
    first | rfl | simp
  have hb : (BitVec.ofNat 32 i.val != BitVec.ofNat 32 j.val) = decide (i ≠ j) := by
    by_cases e : i = j
    · subst e; simp
    · have : BitVec.ofNat 32 i.val ≠ BitVec.ofNat 32 j.val := fun q => e ((ofNat_inj _ _).mp q)
      simp [e, this]
  rw [hr, hb, bit_number, one_bits, Ideal.ofBits_zero_f32, ← EReal.coe_sub]
  by_cases e : i = j
  · rw [if_neg (not_not.mpr e), if_pos e, EReal.coe_zero, mul_zero]
  · rw [if_pos e, if_neg e, EReal.coe_one, mul_one]
    rfl

/-- The kernel's result from its pairs: their sum, averaged. -/
theorem summed (x : FVec Ideal S1024x1024 .f32) :
    extractAt ![0, 0, 0] (shapeCast S1x1x1 (multiReduction .add [1, 2] S1 (shapeCast S1x1024x1024 x shapeCasts_S1024x1024_S1x1024x1024) 0x00000000#32
      reduces_S1x1024x1024_S1 (.inl rfl) rfl) shapeCasts_S1_S1x1x1) inpos_S1x1x1_p0_0_0 = ∑ i : Fin 1024, ∑ j : Fin 1024, x (ix2 i j) := by
  show shapeCast S1x1x1 _ shapeCasts_S1_S1x1x1 _ = _
  refine (shapeCast_apply _ shapeCasts_S1_S1x1x1 _ (ix1 0) rfl).trans ?_
  refine (Ideal.multiReduction_add_total _ _ reduces_S1x1024x1024_S1 (fun b => by match b with | ⟨0, _⟩ => rfl) (.inl rfl) rfl (ix1 0)).trans ?_
  unfold shapeCast
  rw [Equiv.sum_comp (Shape.reshapeEquiv _) x]
  exact sum_idx2 x

/-- The kernel's last value: the sum of the pulls and pushes, averaged. -/
theorem pay1_eq (v31 : FVec Ideal S1024x1024 .f32) (v37 : FVec Ideal S1024x1 .f32) (v53 : FVec Ideal S1024x1024 .f32) (v65 : IVec S1024x1024 32)
    (v132 : FVec Ideal S1024x1024 .f32) (v140 : FVec Ideal S1024x1024 .bf16) (v142 : FVec Ideal S1024 .f32) (u : S1x1.Idx) :
    k0_pay1 v31 v37 v53 v65 v132 v140 v142 u
      = Ideal.div (∑ i : Fin 1024, ∑ j : Fin 1024, pulled v31 v37 (weighed v53 (mixed v132 v140 v142)) v65 (ix2 i j)) (Ideal.ofBits .f32 0x497FC000#32) := by
  rw [← summed]; rfl

/-- What one run of the body computes, from its three input blocks. -/
theorem body_loss (x0 x1 : FVec Ideal S1024x64 .f32) (x2 : Vec Ideal S1x1024 .i32) (hs : ∀ i, mean (pts x0) i ≠ 0) (u : S1x1.Idx) :
    k0_pay1 (F := Ideal) (k0_pay3 x0) (k0_pay4 x0) (k0_pay8 (k0_pay5 x1) (k0_pay6 x1) (k0_pay7 x1)) places
      (k0_pay13 places (k0_pay9 (k0_pay5 x1) (k0_pay6 x1) (k0_pay7 x1) x2) (k0_pay10 (k0_pay5 x1) (k0_pay6 x1) (k0_pay7 x1) x2))
      (k0_pay15 places (k0_pay9 (k0_pay5 x1) (k0_pay6 x1) (k0_pay7 x1) x2) (k0_pay10 (k0_pay5 x1) (k0_pay6 x1) (k0_pay7 x1) x2))
      (k0_pay16 places (k0_pay9 (k0_pay5 x1) (k0_pay6 x1) (k0_pay7 x1) x2) (k0_pay10 (k0_pay5 x1) (k0_pay6 x1) (k0_pay7 x1) x2)) u
      = loss (pts x0) (pts x1) (fun i => x2 (ix2 0 i)) := by
  rw [pay1_eq]
  unfold loss
  have h0 := seen_nonneg (pts x1) (fun i => x2 (ix2 0 i))
  have h := pay11_at x1 x2
  refine congrArg (fun z => Ideal.div z _) (Finset.sum_congr rfl fun i _ => Finset.sum_congr rfl fun j _ => ?_)
  exact pulled_at _ _ _ hs _ _ _ (pay3_at x0) (pay4_at x0)
    (weighed_at _ _ _ _ (pay8_at x1) (mixed_at _ _ _ _ (pay13_at _ h0 _ _ _ h) (pay15_at _ h0 _ _ _ h) (pay16_at _ h0 _ _ _ h))) i j

end Cert.Relation

end
-- ==== Proof.KernelValue.lean ====
/- What the kernel leaves in its result array: the loss of its argument arrays. -/
module

public import proofs.«01_k».proof.Proof.KernelLoss
public import proofs.«01_k».proof.Proof.Gen.KernelIdeal.Value

@[expose] public section

noncomputable section

namespace Cert.Relation

open Idealize.ShloMosaic Idealize.ShloMosaic.ValueIdx Idealize.ShloMosaic.TcCoe Idealize.SL.Sem
open Cert.KernelIdeal Cert.KernelIdeal.Gen Cert.KernelIdeal.Value

/-- The offsets of a whole block. -/
theorem at_zero : (![0, 0] : Fin 2 → Nat) = fun _ => 0 := funext fun a => by fin_cases a <;> rfl

/-- What the body's one store leaves, from the input blocks. -/
theorem stored_loss (x0 x1 : FVec Ideal S1024x64 .f32) (x2 : Vec Ideal S1x1024 .i32) (hs : ∀ i, mean (pts x0) i ≠ 0) :
    out0_3 (F := Ideal) x0 x1 x2 = fun _ => loss (pts x0) (pts x1) (fun i => x2 (ix2 0 i)) := by
  unfold out0_3 k0_pay22 k0_pay21 k0_pay20 k0_pay19 k0_pay18 k0_pay17
  rw [View.canon_unit_zero at_zero, View.ld_unit_zero at_zero, View.ld_unit_zero at_zero, View.ld_unit_zero at_zero]
  exact funext fun u => body_loss x0 x1 x2 hs u

variable (m : (ℓ : Loc nD τ sig) → Buf (Elt Ideal) ℓ)

/-- An index of each window's block is the same index of its array. -/
theorem emb0 (t : Fin cfg0.N) (j : S1024x64.Idx) : ((cfg0.win 0).blk t).view.emb j = j :=
  funext fun a => Fin.ext (match a with
    | ⟨0, _⟩ => show 0 * 1024 + 1 * (j 0).val = (j 0).val by omega
    | ⟨1, _⟩ => show 0 * 64 + 1 * (j 1).val = (j 1).val by omega)
/-- The second window's block is the whole array. -/
theorem emb1 (t : Fin cfg0.N) (j : S1024x64.Idx) : ((cfg0.win 1).blk t).view.emb j = j :=
  funext fun a => Fin.ext (match a with
    | ⟨0, _⟩ => show 0 * 1024 + 1 * (j 0).val = (j 0).val by omega
    | ⟨1, _⟩ => show 0 * 64 + 1 * (j 1).val = (j 1).val by omega)
/-- The third window's block is the whole array. -/
theorem emb2 (t : Fin cfg0.N) (j : S1x1024.Idx) : ((cfg0.win 2).blk t).view.emb j = j :=
  funext fun a => Fin.ext (match a with
    | ⟨0, _⟩ => show 0 * 1 + 1 * (j 0).val = (j 0).val by omega
    | ⟨1, _⟩ => show 0 * 1024 + 1 * (j 1).val = (j 1).val by omega)
/-- The result window's block is the whole array. -/
theorem emb3 (t : Fin cfg0.N) (j : S1x1.Idx) : ((cfg0.win 3).blk t).view.emb j = j :=
  funext fun a => Fin.ext (match a with
    | ⟨0, _⟩ => show 0 * 1 + 1 * (j 0).val = (j 0).val by omega
    | ⟨1, _⟩ => show 0 * 1 + 1 * (j 1).val = (j 1).val by omega)

/-- Every window's block is its whole array. -/
theorem block0 (c : Dev nD) (t : Fin cfg0.N) : iblk m c 0 t = m ((c : Thread nD τ).loc main_arg0) := by
  rw [← V_main_arg0 m c]
  exact funext fun j => congrArg (V m c main_arg0) (emb0 t j)

/-- The second window's block is the second argument. -/
theorem block1 (c : Dev nD) (t : Fin cfg0.N) : iblk m c 1 t = m ((c : Thread nD τ).loc main_arg1) := by
  rw [← V_main_arg1 m c]
  exact funext fun j => congrArg (V m c main_arg1) (emb1 t j)

/-- The third window's array is the identities laid out in a row. -/
theorem laid (c : Dev nD) : V m c main_call0_v0 = shapeCast S1x1024 (m ((c : Thread nD τ).loc main_arg2)) shapeCasts_S1024_S1x1024 := by
  show StableHlo.after hostOps0 _ _ = _
  rw [StableHlo.after_cons, StableHlo.after_nil]
  exact StableHlo.reshape_result _ _ _ _ _ _ _

/-- The third window's block is the identities laid out in a row. -/
theorem block2 (c : Dev nD) (t : Fin cfg0.N) :
    iblk m c 2 t = shapeCast S1x1024 (m ((c : Thread nD τ).loc main_arg2)) shapeCasts_S1024_S1x1024 := by
  rw [← laid m c]
  exact funext fun j => congrArg (V m c main_call0_v0) (emb2 t j)

/-- The kernel's result as a function of its argument arrays. -/
def answer (x0 x1 : FVec Ideal S1024x64 .f32) (x2 : IVec S1024 32) : FVec Ideal S1x1 .f32 :=
  fun _ => loss (pts x0) (pts x1) (fun i => x2 (ix1 i))

/-- The result array after the run. -/
theorem final (c : Dev nD) (hs : ∀ i, mean (pts (m ((c : Thread nD τ).loc main_arg0))) i ≠ 0) :
    (dats m 0 c).arrAt 3 cfg0.N
      = answer (m ((c : Thread nD τ).loc main_arg0)) (m ((c : Thread nD τ).loc main_arg1)) (m ((c : Thread nD τ).loc main_arg2)) := by
  refine (dats m 0 c).arrAt_eq_of_cover 3 _ (fun t _ => ?_) (fun i => ?_)
  · rw [flushed3, block0, block1, block2, stored_loss _ _ _ hs]
    unfold answer
    refine funext fun j => ?_
    show loss _ _ (fun i => shapeCast S1x1024 _ _ (ix2 0 i)) = loss _ _ _
    exact congrArg _ (funext fun i => shapeCast_a_1a_apply _ _ _ _)
  · refine ⟨t0_0, flush0_3 _, ?_⟩
    have h := ((cfg0.win 3).blk t0_0).view.emb_mem_set i
    rwa [emb3] at h

end Cert.Relation

end
-- ==== Proof.RefNear.lean ====
/- The reference's distances and similarities, as the plain mathematics names them. -/
module

public import proofs.«01_k».proof.Proof.KernelRank
public import proofs.«01_k».proof.Proof.Gen.ReferenceIdeal.Read

@[expose] public section

noncomputable section

open scoped BigOperators

namespace Cert.Relation

open Idealize.ShloMosaic Idealize.ShloMosaic.ValueIdx Cert.ReferenceIdeal Cert.ReferenceIdeal.Gen Cert.ReferenceIdeal.Read

/-- A sum from the zero constant. -/
theorem from_zero (x : EReal) : (FloatOps.ofBits (F := Ideal) .f32 0x00000000#32 : EReal) + x = x := by
  show Ideal.ofBits .f32 0x00000000#32 + x = x
  rw [Ideal.ofBits_zero_f32, zero_add]

/-- The reference's scaled points (both families are scaled by the same operations). -/
theorem v4_at (x : FVec Ideal S1024x64 .f32) (i : Fin 1024) (k : Fin 64) :
    val_main_v4 (F := Ideal) x (ix2 i k) = unit (pts x) i k := by
  rw [val_main_v4_apply, val_main_v3_apply, val_main_v2_apply, val_main_v0_apply, val_main_call0_v2_apply, val_main_call0_v1_apply,
    val_main_v1_apply]
  show Ideal.div _ (max (Ideal.sqrt (FloatOps.ofBits (F := Ideal) .f32 0x00000000#32 + _)) _) = _
  rw [from_zero]
  unfold unit
  refine congrArg (fun z => Ideal.div _ (max (Ideal.sqrt z) _)) (Finset.sum_congr rfl fun q _ => ?_)
  have e : idx_main_call0_v1 (idx_main_call0_v2 (idx_main_v3 (ix2 i k))) q = ix2 i q :=
    funext fun a => match a with | ⟨0, _⟩ => rfl | ⟨1, _⟩ => rfl
  rw [e]
  rfl

/-- Both families are scaled by the same operations. -/
theorem v9_eq (x : FVec Ideal S1024x64 .f32) : val_main_v9 (F := Ideal) x = val_main_v4 (F := Ideal) x := rfl

/-- The reference's squared distances, clamped at zero. -/
theorem v25_at (x : FVec Ideal S1024x64 .f32) (i j : Fin 1024) :
    val_main_v25 (F := Ideal) x (ix2 i j) = gap (unit (pts x)) i j := by
  rw [val_main_v25_apply, val_main_v23_apply, val_main_v22_apply, val_main_v20_apply, val_main_v18_apply, val_main_v16_apply,
    val_main_v17_apply, val_main_v12_apply, val_main_v15_apply, val_main_v11_apply, val_main_v14_apply, val_main_v21_apply, val_main_v24_apply]
  show max ((FloatOps.ofBits (F := Ideal) .f32 0x00000000#32 + _) + (FloatOps.ofBits (F := Ideal) .f32 0x00000000#32 + _)
    - Ideal.ofBits .f32 0x40000000#32 * _) (Ideal.ofBits .f32 0x00000000#32) = _
  rw [from_zero, from_zero, Ideal.ofBits_zero_f32]
  unfold gap
  have e1 : ∀ q, val_main_v10 (F := Ideal) x (idx_main_v11 (idx_main_v12 (idx_main_v16 (ix2 i j))) q) = unit (pts x) i q * unit (pts x) i q := fun q => by
    have e : idx_main_v11 (idx_main_v12 (idx_main_v16 (ix2 i j))) q = ix2 i q := funext fun a => match a with | ⟨0, _⟩ => rfl | ⟨1, _⟩ => rfl
    rw [e, val_main_v10_apply, v4_at]; rfl
  have e2 : ∀ q, val_main_v13 (F := Ideal) x (idx_main_v14 (idx_main_v15 (idx_main_v17 (ix2 i j))) q) = unit (pts x) j q * unit (pts x) j q := fun q => by
    have e : idx_main_v14 (idx_main_v15 (idx_main_v17 (ix2 i j))) q = ix2 j q := funext fun a => match a with | ⟨0, _⟩ => rfl | ⟨1, _⟩ => rfl
    rw [e, val_main_v13_apply, v4_at]; rfl
  have e3 : ∀ q, val_main_v4 (F := Ideal) x (lidx_main_v20 (ix2 i j) q) * val_main_v19 (F := Ideal) x (ridx_main_v20 (ix2 i j) q)
      = unit (pts x) i q * unit (pts x) j q := fun q => by
    have e : lidx_main_v20 (ix2 i j) q = ix2 i q := funext fun a => match a with | ⟨0, _⟩ => rfl | ⟨1, _⟩ => rfl
    have e' : idx_main_v19 (ridx_main_v20 (ix2 i j) q) = ix2 j q := funext fun a => match a with | ⟨0, _⟩ => rfl | ⟨1, _⟩ => rfl
    rw [val_main_v19_apply, e, e', v4_at, v4_at]
  rw [Finset.sum_congr rfl fun q _ => e1 q, Finset.sum_congr rfl fun q _ => e2 q, Finset.sum_congr rfl fun q _ => e3 q]

/-- The reference's distances. -/
theorem v26_at (x : FVec Ideal S1024x64 .f32) (i j : Fin 1024) : val_main_v26 (F := Ideal) x (ix2 i j) = far (pts x) i j := by
  rw [val_main_v26_apply, v25_at]; rfl

/-- The reference's mean distances. -/
theorem v30_at (x : FVec Ideal S1024x64 .f32) (i : Fin 1024) : val_main_v30 (F := Ideal) x (ix2 i 0) = mean (pts x) i := by
  rw [val_main_v30_apply, val_main_v28_apply, val_main_v27_apply, val_main_v29_apply]
  show Ideal.div (FloatOps.ofBits (F := Ideal) .f32 0x00000000#32 + _) _ = _
  rw [from_zero]
  unfold mean
  refine congrArg (fun z => Ideal.div z _) (Finset.sum_congr rfl fun q _ => ?_)
  have e : idx_main_v27 (idx_main_v28 (ix2 i 0)) q = ix2 i q := funext fun a => match a with | ⟨0, _⟩ => rfl | ⟨1, _⟩ => rfl
  rw [e, v26_at]

/-- The reference's relative distances. -/
theorem v32_at (x : FVec Ideal S1024x64 .f32) (i j : Fin 1024) : val_main_v32 (F := Ideal) x (ix2 i j) = relative (pts x) i j := by
  rw [val_main_v32_apply, val_main_v31_apply, v26_at]
  have e : idx_main_v31 (ix2 i j) = ix2 i 0 := funext fun a => match a with | ⟨0, _⟩ => rfl | ⟨1, _⟩ => rfl
  rw [e, v30_at]
  rfl

/-- Dividing by one. -/
theorem div_one_bits (x : EReal) : Ideal.div x (Ideal.ofBits .f32 0x3F800000#32) = x := by
  rw [one_bits]
  unfold Ideal.div
  rw [if_neg (by rw [EReal.coe_one]; exact one_ne_zero), ← EReal.coe_inv, inv_one, EReal.coe_one, mul_one]

/-- The reference's similarities: it takes the root and squares it again. -/
theorem v54_at (x : FVec Ideal S1024x64 .f32) (i j : Fin 1024) : val_main_v54 (F := Ideal) x (ix2 i j) = near (pts x) i j := by
  have e : val_main_v49 (F := Ideal) x (ix2 i j) = far (pts x) i j := v26_at x i j
  rw [val_main_v54_apply, val_main_v53_apply, val_main_v51_apply, val_main_v50_apply, e, val_main_v52_apply]
  show Ideal.exp (Ideal.div (-(far (pts x) i j * far (pts x) i j)) (Ideal.ofBits .f32 0x3F800000#32)) = _
  rw [div_one_bits]
  unfold far near
  rw [sqrt_sq _ (gap_nonneg _ i j), zero_sub]

/-- What the reference ranks. -/
theorem v60_at (x : FVec Ideal S1024x64 .f32) (v : IVec S1024 32) (i j : Fin 1024) :
    val_main_v60 (F := Ideal) x v (ix2 i j) = seen (pts x) (fun i => v (ix1 i)) i j := by
  rw [val_main_v60_apply, val_main_v59_apply, val_main_v57_apply, val_main_v55_apply, val_main_v58_apply, val_main_v56_apply,
    val_main_call2_v1_apply, v54_at]
  have e : idx_main_v55 (idx_main_v57 (ix2 i j)) = ix1 i := funext fun a => match a with | ⟨0, _⟩ => rfl
  have e' : idx_main_v56 (idx_main_v58 (ix2 i j)) = ix1 j := funext fun a => match a with | ⟨0, _⟩ => rfl
  rw [e, e']
  unfold seen
  by_cases h : v (ix1 i) = v (ix1 j)
  · rw [if_pos h, h]
    show Scalar.select (BitVec.ofBool (v (ix1 j) == v (ix1 j))) _ _ = _
    rw [beq_self_eq_true]
    exact one_bits
  · rw [if_neg h]
    show Scalar.select (BitVec.ofBool (v (ix1 i) == v (ix1 j))) _ _ = _
    rw [beq_eq_false_iff_ne.mpr h]
    rfl

end Cert.Relation

end
-- ==== Proof.RefTop.lean ====
/- The reference's ten greatest entries of every row, and the matrix it marks with them. -/
module

public import proofs.«01_k».proof.Proof.RefNear
public import Idealize.ShloMosaic.Lib.Routing.OpsSet

@[expose] public section

noncomputable section

open scoped BigOperators

namespace Cert.Relation

open Idealize.ShloMosaic Idealize.ShloMosaic.Routing Idealize.ShloMosaic.ValueIdx Cert.ReferenceIdeal Cert.ReferenceIdeal.Gen Cert.ReferenceIdeal.Read

/-- A place number read as a signed word. -/
theorem number_toInt (p : Fin 1024) : (BitVec.ofNat 32 p.val).toInt = (p.val : Int) := by
  have := p.isLt
  rw [BitVec.toInt_ofNat', Int.bmod_eq_of_le] <;> omega

/-- The wrap of a negative index leaves a place number. -/
theorem wrap_number (p : Fin 1024) (w : BitVec 32) :
    Scalar.select (IntOp.cmpi .slt (BitVec.ofNat 32 p.val) 0#32) w (BitVec.ofNat 32 p.val) = BitVec.ofNat 32 p.val := by
  have h : (BitVec.ofNat 32 p.val).slt 0#32 = false := by
    rw [BitVec.slt, number_toInt]
    have : (0#32 : BitVec 32).toInt = 0 := by decide
    rw [this]
    exact decide_eq_false (by omega)
  show Scalar.select (BitVec.ofBool ((BitVec.ofNat 32 p.val).slt 0#32)) _ _ = _
  rw [h]
  rfl

/-- The `m`-th of the first ten ranks among all ranks. -/
abbrev ten (m : Fin 10) : Fin 1024 := ⟨m.val, by omega⟩

/-- The index a sort with its indices puts at `j`, cut to the first places of the axis. -/
theorem sorted_index {s t : Shape} (d : Fin s.rank) (gt : EReal → EReal → BitVec 1) (y : s.Idx → EReal) (h : s.Slices (fun _ => 0) t)
    (j : t.Idx) (J : s.Idx) (hJ : ∀ a, (J a).val = (j (a.cast h.1.symm)).val) :
    (Host.topK t d.val gt y h).2 j
      = BitVec.ofNat 32 (sortedFrom (fun k k' => gt (y (J.along d k)) (y (J.along d k')) == 1#1) (J d)).val := by
  have e : (Host.topK t d.val gt y h).2 j
      = (Host.sort2 s d.val (fun l r => gt l.1 r.1) y (fun i => if hd : d.val < s.rank then iotaInDim s 32 ⟨d.val, hd⟩ i else 0#32)).2 J := by
    unfold Host.topK
    refine congrArg (Prod.snd (Host.sort2 s d.val _ y _)) (funext fun a => Fin.ext ?_)
    exact (Nat.zero_add _).trans (hJ a).symm
  rw [e]
  unfold Host.sort2
  rw [dif_pos d.isLt]
  simp only [iotaInDim, dif_pos d.isLt, Shape.Idx.along, Function.update_self, Fin.eta]

/-- The indices of the ten greatest of every row are the places of the first ten ranks. -/
theorem greatest_places (y : FVec Ideal S1024x1024 .f32) (a : Fin 1024 → Fin 1024 → EReal) (hy : ∀ i j : Fin 1024, y (ix2 i j) = a i j)
    (h : S1024x1024.Slices (fun _ => 0) S1024x10) (i : Fin 1024) (m : Fin 10) :
    (Host.topK S1024x10 1 (FloatOps.cmpfTotal (F := Ideal) (φ := .f32) .gt) y h).2 (ix2 i m) = BitVec.ofNat 32 (place (a i) (ten m)).val := by
  refine (sorted_index (s := S1024x1024) (t := S1024x10) (1 : Fin 2) _ y h (ix2 i m) (ix2 i (ten m)) (fun b => by
    match b with | ⟨0, _⟩ => rfl | ⟨1, _⟩ => rfl)).trans ?_
  have along : ∀ k : Fin 1024, Shape.Idx.along (s := S1024x1024) (ix2 i (ten m)) (1 : Fin 2) k = ix2 i k := fun k =>
    funext fun b => match b with
      | ⟨0, _⟩ => rfl
      | ⟨1, _⟩ => rfl
  have hb : (fun k k' : Fin 1024 => FloatOps.cmpfTotal (F := Ideal) (φ := .f32) .gt
        (y (Shape.Idx.along (s := S1024x1024) (ix2 i (ten m)) (1 : Fin 2) k)) (y (Shape.Idx.along (s := S1024x1024) (ix2 i (ten m)) (1 : Fin 2) k')) == 1#1)
      = byValue (a i) := by
    funext k k'
    rw [along, along, hy, hy]
    show (BitVec.ofBool (decide (a i k > a i k')) == 1#1) = decide (a i k' < a i k)
    have : ∀ b : Bool, (BitVec.ofBool b == 1#1) = b := by decide
    exact this _
  exact congrArg (fun f : Fin 1024 → Fin 1024 → Bool => BitVec.ofNat 32 (sortedFrom f (ten m)).val) hb

section Marks

variable (x : FVec Ideal S1024x64 .f32) (v : IVec S1024 32)

/-- What is ranked: the similarities with `1` between equal identities. -/
abbrev ranks : Fin 1024 → Fin 1024 → EReal := seen (pts x) (fun i => v (ix1 i))

/-- The index words are the places of the first ten ranks. -/
theorem indices_at (i : Fin 1024) (m : Fin 10) :
    val_main_indices (F := Ideal) x v (ix2 i m) = BitVec.ofNat 32 (place (ranks x v i) (ten m)).val := by
  unfold val_main_indices
  exact greatest_places _ _ (v60_at x v) _ i m

/-- The index pairs the reference marks: the row and the place. -/
theorem v78_row (i : Fin 1024) (m : Fin 10) : val_main_v78 (F := Ideal) x v (ix3 i m 0) = BitVec.ofNat 32 i.val := by
  unfold val_main_v78
  refine (concatenate_pair_apply_left (s₁ := S1024x10x1) (s₂ := S1024x10x1) (t := S1024x10x2) 2 _ _ _ (ix3 i m 0) rfl (ix3 i m 0) (fun b => by
    match b with | ⟨0, _⟩ => rfl | ⟨1, _⟩ => rfl | ⟨2, _⟩ => rfl)).trans ?_
  rw [val_main_v76_apply, val_main_v75_apply, val_main_v69_apply, val_main_v66_apply, val_main_v64_apply, val_main_v65_apply]
  exact wrap_number i _

/-- The second words of the index pairs: the places. -/
theorem v78_place (i : Fin 1024) (m : Fin 10) :
    val_main_v78 (F := Ideal) x v (ix3 i m 1) = BitVec.ofNat 32 (place (ranks x v i) (ten m)).val := by
  unfold val_main_v78
  refine (concatenate_pair_apply_right (s₁ := S1024x10x1) (s₂ := S1024x10x1) (t := S1024x10x2) 2 _ _ _ (ix3 i m 1) rfl rfl (ix3 i m 0) (fun b hb => by
    match b with
    | ⟨0, _⟩ => rfl
    | ⟨1, _⟩ => rfl
    | ⟨2, _⟩ => exact absurd rfl hb) rfl).trans ?_
  rw [val_main_v77_apply, val_main_v74_apply, val_main_v71_apply, val_main_v70_apply]
  have e : idx_main_v77 (ix3 i m 0) = ix2 i m := funext fun b => match b with | ⟨0, _⟩ => rfl | ⟨1, _⟩ => rfl
  rw [e, indices_at]
  exact wrap_number _ _

/-- An update lands at the element whose coordinates are its start plus its window. -/
theorem lands_of_sum {s si u : Shape} {n : Nat} (d : ScatterDims s si u) (j : u.Idx) (idx : IVec si n) (ι : s.Idx)
    (h : ∀ a, d.start j idx a + d.window j a = ((ι a).val : Int)) : d.resultIdx? j idx = some ι := by
  unfold ScatterDims.resultIdx?
  rw [dif_pos (fun a => by have := (ι a).isLt; rw [h a]; omega)]
  exact congrArg some (funext fun a => Fin.ext (by show (d.start j idx a + d.window j a).toNat = _; rw [h a]; exact Int.toNat_natCast _))

/-- Where an update lands: at its row and its place. -/
theorem lands (i : Fin 1024) (m : Fin 10) :
    scatter_S1024x1024_S1024x10x2_S1024x10_n_01_01_2.resultIdx? (ix2 i m) (val_main_v78 (F := Ideal) x v)
      = some (ix2 i (place (ranks x v i) (ten m))) := by
  have w : ∀ b, scatter_S1024x1024_S1024x10x2_S1024x10_n_01_01_2.window (ix2 i m) b = 0 := fun b => by
    unfold ScatterDims.window
    exact dif_neg (by revert b; decide)
  have s0 : scatter_S1024x1024_S1024x10x2_S1024x10_n_01_01_2.start (ix2 i m) (val_main_v78 (F := Ideal) x v) 0 = (i.val : Int) := by
    unfold ScatterDims.start
    rw [dif_pos (by decide)]
    rw [← number_toInt, ← v78_row x v i m]
    refine congrArg (fun q => (val_main_v78 (F := Ideal) x v q).toInt) (funext fun b => ?_)
    match b with | ⟨0, _⟩ => rfl | ⟨1, _⟩ => rfl | ⟨2, _⟩ => rfl
  have s1 : scatter_S1024x1024_S1024x10x2_S1024x10_n_01_01_2.start (ix2 i m) (val_main_v78 (F := Ideal) x v) 1
      = ((place (ranks x v i) (ten m)).val : Int) := by
    unfold ScatterDims.start
    rw [dif_pos (by decide)]
    rw [← number_toInt, ← v78_place x v i m]
    refine congrArg (fun q => (val_main_v78 (F := Ideal) x v q).toInt) (funext fun b => ?_)
    match b with | ⟨0, _⟩ => rfl | ⟨1, _⟩ => rfl | ⟨2, _⟩ => rfl
  refine lands_of_sum _ _ _ _ fun b => ?_
  match b with
  | ⟨0, _⟩ => exact (congrArg₂ (fun (p : Int) (q : Nat) => p + q) s0 (w _)).trans (Int.add_zero _)
  | ⟨1, _⟩ => exact (congrArg₂ (fun (p : Int) (q : Nat) => p + q) s1 (w _)).trans (Int.add_zero _)

/-- The marked matrix: one at the ten greatest of each row, else zero. -/
theorem v80_at (i j : Fin 1024) : val_main_v80 (F := Ideal) x v (ix2 i j) = (((if Top (ranks x v) 10 i j then 1 else 0 : ℝ)) : EReal) := by
  unfold val_main_v80
  by_cases h : Top (ranks x v) 10 i j
  · rw [if_pos h]
    refine scatter_set_hit _ _ _ _ _ _ (fun k _ => ?_) (ix2 i (⟨(rank (ranks x v i) j).val, h⟩ : Fin 10)) ?_
    · rw [val_main_v79_apply]; exact one_bits
    · rw [lands]
      refine congrArg (fun q => some (ix2 i q)) ?_
      exact place_rank (ranks x v i) j
  · rw [if_neg h]
    refine (scatter_set_miss _ _ _ _ _ (fun k hk => h ?_)).trans ?_
    · obtain ⟨p, m, rfl⟩ : ∃ p m, k = ix2 p m := ⟨_, _, eq_ix2 k⟩
      rw [lands] at hk
      have hk := Option.some.inj hk
      have e0 : p = i := congrFun hk 0
      subst e0
      have e1 : place (ranks x v p) (ten m) = j := congrFun hk 1
      unfold Top
      rw [← e1, rank_place]
      exact m.isLt
    · rw [val_main_v62_apply]; exact Ideal.ofBits_zero_f32

end Marks

end Cert.Relation

end
-- ==== Proof.RefGraph.lean ====
/- The reference's mutual rows, shared counts, context similarities and weights. -/
module

public import proofs.«01_k».proof.Proof.RefTop

@[expose] public section

noncomputable section

open scoped BigOperators

namespace Cert.Relation

open Idealize.ShloMosaic Idealize.ShloMosaic.ValueIdx Cert.ReferenceIdeal Cert.ReferenceIdeal.Gen Cert.ReferenceIdeal.Read

/-- A sum over the numbers below `m`, written with a condition. -/
theorem first_sum {n m : Nat} (h : m ≤ n) (g : Fin n → ℝ) :
    (∑ p : Fin n, if p.val < m then g p else 0) = ∑ k : Fin m, g ⟨k.val, lt_of_lt_of_le k.isLt h⟩ := by
  obtain ⟨r, rfl⟩ := Nat.exists_eq_add_of_le h
  rw [Fin.sum_univ_add, Finset.sum_eq_zero (s := (Finset.univ : Finset (Fin r))) (fun p _ => if_neg (by simp)), add_zero]
  exact Finset.sum_congr rfl fun k _ => if_pos k.isLt

/-- A sum over the five greatest of a row is the sum over the places of the first five ranks. -/
theorem five_greatest (a : Fin 1024 → Fin 1024 → EReal) (i : Fin 1024) (f : Fin 1024 → ℝ) :
    (∑ c, if Top a 5 i c then f c else 0) = ∑ k : Fin 5, f (place (a i) ⟨k.val, by omega⟩) := by
  rw [← Equiv.sum_comp (ranking (a i))]
  have e : ∀ p : Fin 1024, (if Top a 5 i (ranking (a i) p) then f (ranking (a i) p) else 0) = if p.val < 5 then f (place (a i) p) else 0 := fun p => by
    have q : Top a 5 i (place (a i) p) ↔ p.val < 5 := by unfold Top; rw [rank_place]
    have r : ranking (a i) p = place (a i) p := Equiv.ofBijective_apply _ _ _
    rw [r]
    exact if_congr q rfl rfl
  rw [Finset.sum_congr rfl fun p _ => e p]
  exact first_sum (by omega) (fun p => f (place (a i) p))

section Graph

variable (x : FVec Ideal S1024x64 .f32) (v : IVec S1024 32)

/-- The reference's mutual rows: where the marks and their transpose average to one. -/
theorem v87_at (i j : Fin 1024) : val_main_v87 (F := Ideal) x v (ix2 i j) = ((both (ranks x v) i j : ℝ) : EReal) := by
  rw [val_main_v87_apply, val_main_v86_apply, val_main_v84_apply, val_main_v82_apply, val_main_v81_apply]
  have e : idx_main_v81 (ix2 i j) = ix2 j i := funext fun b => match b with | ⟨0, _⟩ => rfl | ⟨1, _⟩ => rfl
  rw [e, v80_at, v80_at]
  show (((BitVec.ofBool (decide (Ideal.div (_ + _) (Ideal.ofBits .f32 0x40000000#32) = Ideal.ofBits .f32 0x3F800000#32))).toNat : ℝ) : EReal) = _
  rw [two_bits, one_bits, ← EReal.coe_add, div_coe _ _ two_ne_zero]
  unfold both
  congr 1
  have number : ∀ p : Prop, ∀ _ : Decidable p, ((BitVec.ofBool (decide p)).toNat : ℝ) = if p then 1 else 0 := fun p _ => by
    by_cases hp : p <;> simp [hp]
  rw [number]
  by_cases p : Top (ranks x v) 10 i j <;> by_cases q : Top (ranks x v) 10 j i <;> simp only [p, q, if_true, if_false, and_true, and_false, EReal.coe_eq_coe_iff] <;> norm_num

/-- The reference's numbers of mutual rows. -/
theorem v88_at (i : Fin 1024) : val_main_v88 (F := Ideal) x v (ix1 i) = ((deg (ranks x v) i : ℝ) : EReal) := by
  rw [val_main_v88_apply]
  refine (from_zero _).trans ?_
  unfold deg
  rw [← coe_sum]
  refine Finset.sum_congr rfl fun q _ => ?_
  have e : idx_main_v88 (ix1 i) q = ix2 i q := funext fun b => match b with | ⟨0, _⟩ => rfl | ⟨1, _⟩ => rfl
  rw [e, v87_at]

/-- The reference's shared counts. -/
theorem v91_at (i j : Fin 1024) : val_main_v91 (F := Ideal) x v (ix2 i j) = ((shared (ranks x v) i j : ℝ) : EReal) := by
  rw [val_main_v91_apply, val_main_v90_apply, v87_at]
  show _ * _ = _
  unfold shared
  rw [EReal.coe_mul, ← coe_sum]
  refine congrArg (_ * ·) (Finset.sum_congr rfl fun q _ => ?_)
  have e : lidx_main_v90 (ix2 i j) q = ix2 i q := funext fun b => match b with | ⟨0, _⟩ => rfl | ⟨1, _⟩ => rfl
  have e' : idx_main_v89 (ridx_main_v90 (ix2 i j) q) = ix2 j q := funext fun b => match b with | ⟨0, _⟩ => rfl | ⟨1, _⟩ => rfl
  rw [val_main_v89_apply, e, e', v87_at, v87_at, EReal.coe_mul]

/-- The reference's shared counts over the row's number of mutual rows. -/
theorem v96_at (i j : Fin 1024) :
    val_main_v96 (F := Ideal) x v (ix2 i j) = ((shared (ranks x v) i j / max (deg (ranks x v) i) 1 : ℝ) : EReal) := by
  rw [val_main_v96_apply, val_main_v95_apply, val_main_v94_apply, val_main_v93_apply, v91_at]
  have e : idx_main_v94 (idx_main_v95 (ix2 i j)) = ix1 i := funext fun b => match b with | ⟨0, _⟩ => rfl
  rw [e, v88_at]
  show Ideal.div _ (max _ (Ideal.ofBits .f32 0x3F800000#32)) = _
  rw [one_bits, max_coe, div_coe]
  exact (lt_of_lt_of_le one_pos (le_max_right _ _)).ne'

/-- The index words of the gathered rows: the places of the first five ranks. -/
theorem v102_at (i : Fin 1024) (k : Fin 5) :
    val_main_v102 (F := Ideal) x v (ix3 i k 0) = BitVec.ofNat 32 (place (ranks x v i) ⟨k.val, by omega⟩).val := by
  rw [val_main_v102_apply, val_main_v101_apply, val_main_v98_apply, val_main_v97_apply, val_main_v61_apply]
  have e : idx_main_v61 (idx_main_v102 (ix3 i k 0)) = ix2 i (⟨k.val, by omega⟩ : Fin 10) :=
    funext fun b => match b with | ⟨0, _⟩ => rfl | ⟨1, _⟩ => rfl
  rw [e, indices_at]
  exact wrap_number _ _

/-- The gathered rows. -/
theorem v103_at (i : Fin 1024) (k : Fin 5) (j : Fin 1024) :
    val_main_v103 (F := Ideal) x v (ix3 i k j) = val_main_v96 (F := Ideal) x v (ix2 (place (ranks x v i) ⟨k.val, by omega⟩) j) := by
  unfold val_main_v103 Host.gather
  have hp := (place (ranks x v i) ⟨k.val, by omega⟩).isLt
  have s0 : gather_S1024x1024_S1024x5x1_S1024x5x1024_2_0_n_n_0_2_11024.start (ix3 i k j) (val_main_v102 (F := Ideal) x v) 0
      = (place (ranks x v i) ⟨k.val, by omega⟩).val := by
    unfold GatherDims.start
    rw [dif_pos (by decide)]
    have hsi : ∀ c, gather_S1024x1024_S1024x5x1_S1024x5x1024_2_0_n_n_0_2_11024.siIdx (ix3 i k j) c = ix3 i k 0 := fun c => funext fun b => by
      match b with
      | ⟨0, _⟩ => rfl
      | ⟨1, _⟩ => rfl
      | ⟨2, _⟩ => exact Subsingleton.elim (α := Fin 1) _ _
    rw [hsi, v102_at, number_toInt]
    show min (((place (ranks x v i) ⟨k.val, by omega⟩).val : Int).toNat) (1024 - 1) = _
    omega
  refine congrArg (val_main_v96 (F := Ideal) x v) (funext fun b => Fin.ext ?_)
  match b with
  | ⟨0, _⟩ =>
    show gather_S1024x1024_S1024x5x1_S1024x5x1024_2_0_n_n_0_2_11024.start (ix3 i k j) (val_main_v102 (F := Ideal) x v) (0 : Fin 2)
      + gather_S1024x1024_S1024x5x1_S1024x5x1024_2_0_n_n_0_2_11024.batchCoord (ix3 i k j) 0
      + gather_S1024x1024_S1024x5x1_S1024x5x1024_2_0_n_n_0_2_11024.offCoord (ix3 i k j) 0 = (place (ranks x v i) ⟨k.val, by omega⟩).val
    rw [GatherDims.batchCoord_eq_zero _ _ _ List.not_mem_nil,
      GatherDims.offCoord_eq_zero _ _ _ (fun h => ((GatherDims.mem_sKept _ _).mp h).1 (List.mem_singleton.mpr rfl)), s0, Nat.add_zero]
  | ⟨1, _⟩ =>
    show gather_S1024x1024_S1024x5x1_S1024x5x1024_2_0_n_n_0_2_11024.start (ix3 i k j) (val_main_v102 (F := Ideal) x v) 1
      + gather_S1024x1024_S1024x5x1_S1024x5x1024_2_0_n_n_0_2_11024.batchCoord (ix3 i k j) 1
      + gather_S1024x1024_S1024x5x1_S1024x5x1024_2_0_n_n_0_2_11024.offCoord (ix3 i k j) 1 = j.val
    have s1 : gather_S1024x1024_S1024x5x1_S1024x5x1024_2_0_n_n_0_2_11024.start (ix3 i k j) (val_main_v102 (F := Ideal) x v) 1 = 0 := by
      unfold GatherDims.start
      exact dif_neg (by decide)
    rw [GatherDims.batchCoord_eq_zero _ _ _ List.not_mem_nil, s1, Nat.add_zero, Nat.zero_add]
    rfl

/-- The reference's context similarities. -/
theorem v106_at (i j : Fin 1024) : val_main_v106 (F := Ideal) x v (ix2 i j) = ((context (ranks x v) i j : ℝ) : EReal) := by
  rw [val_main_v106_apply, val_main_v104_apply]
  show Ideal.div (FloatOps.ofBits (F := Ideal) .f32 0x00000000#32 + _) (Ideal.ofBits .f32 0x40A00000#32) = _
  rw [from_zero, five_bits]
  have e : ∀ k : Fin 5, idx_main_v104 (ix2 i j) k = ix3 i k j := fun k => funext fun b => match b with
    | ⟨0, _⟩ => rfl | ⟨1, _⟩ => rfl | ⟨2, _⟩ => rfl
  simp only [e, v103_at, v96_at]
  rw [coe_sum, div_coe _ _ (by norm_num)]
  unfold context
  rw [five_greatest (ranks x v) i (fun c => shared (ranks x v) c j / max (deg (ranks x v) c) 1)]

/-- The reference's weights. -/
theorem v113_at (i j : Fin 1024) :
    val_main_v113 (F := Ideal) x v (ix2 i j) = ((weight (pts x) (fun i => v (ix1 i)) i j : ℝ) : EReal) := by
  rw [val_main_v113_apply, val_main_v111_apply, val_main_v110_apply, val_main_v108_apply, val_main_v107_apply, v54_at]
  have e : idx_main_v107 (ix2 i j) = ix2 j i := funext fun b => match b with | ⟨0, _⟩ => rfl | ⟨1, _⟩ => rfl
  rw [e, v106_at, v106_at, ← near_coe]
  show Ideal.div (_ + Ideal.div (_ + _) (Ideal.ofBits .f32 0x40000000#32)) (Ideal.ofBits .f32 0x40000000#32) = _
  rw [two_bits, ← EReal.coe_add, div_coe _ _ two_ne_zero, ← EReal.coe_add, div_coe _ _ two_ne_zero]
  congr 1
  unfold weight
  ring

end Graph

end Cert.Relation

end
-- ==== Proof.RefLoss.lean ====
/- The reference's pulls and pushes, and its result as the loss. -/
module

public import proofs.«01_k».proof.Proof.RefGraph

@[expose] public section

noncomputable section

open scoped BigOperators

namespace Cert.Relation

open Idealize.ShloMosaic Idealize.ShloMosaic.ValueIdx Cert.ReferenceIdeal Cert.ReferenceIdeal.Gen Cert.ReferenceIdeal.Read

/-- A distance relative to a positive mean is not negative. -/
theorem relative_nonneg (s : Points) (hs : ∀ i, 0 < mean s i) (i j : Fin 1024) : 0 ≤ relative s i j := by
  unfold relative Ideal.div
  rw [if_neg (hs i).ne']
  exact mul_nonneg (far_nonneg s i j) (EReal.inv_nonneg_of_nonneg (hs i).le)

/-- One minus the reference's identity matrix: zero at equal rows, else one. -/
theorem off_at (i j : Fin 1024) : val_main_v121 (F := Ideal) (ix2 i j) = (((if i = j then 0 else 1 : ℝ)) : EReal) := by
  rw [val_main_v121_apply, val_main_v119_apply, val_main_v118_apply, val_main_v117_apply]
  have hb : IntOp.cmpi .eq (IntOp.addi (val_main_v114 (F := Ideal) (ix2 i j)) (val_main_v116 (F := Ideal) (ix2 i j))) (val_main_v115 (F := Ideal) (ix2 i j))
      = BitVec.ofBool (decide (i = j)) := by
    have hz : IntOp.addi (val_main_v114 (F := Ideal) (ix2 i j)) (val_main_v116 (F := Ideal) (ix2 i j)) = BitVec.ofNat 32 i.val :=
      BitVec.add_zero _
    rw [hz]
    show BitVec.ofBool (BitVec.ofNat 32 i.val == BitVec.ofNat 32 j.val) = _
    refine congrArg BitVec.ofBool ?_
    by_cases e : i = j
    · subst e; simp
    · have : BitVec.ofNat 32 i.val ≠ BitVec.ofNat 32 j.val := fun q => e ((ofNat_inj _ _).mp q)
      simp [e, this]
  rw [hb]
  show Ideal.ofBits .f32 0x3F800000#32 - (((BitVec.ofBool (decide (i = j))).toNat : ℝ) : EReal) = _
  rw [one_bits, ← EReal.coe_sub]
  congr 1
  by_cases e : i = j <;> simp [e]

section Loss

variable (x0 x1 : FVec Ideal S1024x64 .f32) (v : IVec S1024 32)

/-- The reference's pulls: zero at equal rows. -/
theorem v131_at (hs : ∀ i, 0 < mean (pts x0) i) (i j : Fin 1024) :
    val_main_v131 (F := Ideal) x0 x1 v (ix2 i j)
      = if i = j then 0 else pull (relative (pts x0) i j) (weight (pts x1) (fun i => v (ix1 i)) i j) := by
  rw [val_main_v131_apply, val_main_v130_apply, val_main_v129_apply, val_main_v122_apply, off_at, v113_at, v32_at]
  show max _ (Ideal.ofBits .f32 0x00000000#32) * max _ (Ideal.ofBits .f32 0x00000000#32) * (_ * _) = _
  rw [Ideal.ofBits_zero_f32, max_eq_left (relative_nonneg _ hs i j)]
  by_cases e : i = j
  · rw [if_pos e, if_pos e, EReal.coe_zero, mul_zero, mul_zero]
  · rw [if_neg e, if_neg e, EReal.coe_one, mul_one]
    rfl

/-- The reference's pushes: zero at equal rows. -/
theorem v137_at (i j : Fin 1024) :
    val_main_v137 (F := Ideal) x0 x1 v (ix2 i j)
      = if i = j then 0 else push (relative (pts x0) i j) (weight (pts x1) (fun i => v (ix1 i)) i j) := by
  have off : val_main_v126 (F := Ideal) (ix2 i j) = (((if i = j then 0 else 1 : ℝ)) : EReal) := off_at i j
  rw [val_main_v137_apply, val_main_v136_apply, val_main_v135_apply, val_main_v133_apply, val_main_v127_apply, val_main_v124_apply, off, v113_at, v32_at]
  show max (Ideal.ofBits .f32 0x3F800000#32 - _) (Ideal.ofBits .f32 0x00000000#32) * max (Ideal.ofBits .f32 0x3F800000#32 - _) (Ideal.ofBits .f32 0x00000000#32)
    * ((Ideal.ofBits .f32 0x3F800000#32 - _) * _) = _
  rw [Ideal.ofBits_zero_f32, one_bits, ← EReal.coe_sub]
  by_cases e : i = j
  · rw [if_pos e, if_pos e, EReal.coe_zero, mul_zero, mul_zero]
  · rw [if_neg e, if_neg e, EReal.coe_one, mul_one]
    rfl

/-- The reference's result is the loss. -/
theorem v142_eq (hs : ∀ i, 0 < mean (pts x0) i) :
    val_main_v142 (F := Ideal) x0 x1 v = fun _ => loss (pts x0) (pts x1) (fun i => v (ix1 i)) := by
  funext u
  unfold val_main_v142 shapeCast
  rw [val_main_v141_apply, val_main_v140_apply, val_main_v138_apply, val_main_v139_apply]
  show Ideal.div ((FloatOps.ofBits (F := Ideal) .f32 0x00000000#32 + _) + (FloatOps.ofBits (F := Ideal) .f32 0x00000000#32 + _)) (Ideal.ofBits .f32 0x497FC000#32) = _
  rw [from_zero, from_zero]
  unfold loss
  refine congrArg (fun z => Ideal.div z _) ?_
  rw [sum_idx2 (val_main_v131 (F := Ideal) x0 x1 v), sum_idx2 (val_main_v137 (F := Ideal) x0 x1 v), ← Finset.sum_add_distrib]
  refine Finset.sum_congr rfl fun i _ => ?_
  rw [← Finset.sum_add_distrib]
  refine Finset.sum_congr rfl fun j _ => ?_
  rw [v131_at x0 x1 v hs, v137_at]
  by_cases e : i = j
  · rw [if_pos e, if_pos e, if_pos e, add_zero]
  · rw [if_neg e, if_neg e, if_neg e]

end Loss

end Cert.Relation

end
-- ==== Proof.Positive.lean ====
/- The precondition's first condition: the mean distance of every row is positive. -/
module

public import proofs.«01_k».proof.Proof.RefNear
public import proofs.«01_k».proof.Proof.Gen.Pre_ranks_without_ties

@[expose] public section

noncomputable section

open scoped BigOperators

namespace Cert.Relation

open Idealize.ShloMosaic Idealize.ShloMosaic.ValueIdx Cert.Pre_ranks_without_ties

attribute [local instance] Cert.Pre_ranks_without_ties.Gen.facts

/-- The predicate is the comparison of the means with zero, and the condition on the ranked values. -/
theorem positive_and (x0 x1 : FVec Ideal S1024x64 .f32) (x2 : IVec S1024 32) : ∃ r : IVec S1024 1,
    fn (F := Ideal) x0 x1 x2 = andi (cmpf (F := Ideal) (φ := .f32) .ogt (Host.divf (F := Ideal) (φ := .f32) (Cert.ReferenceIdeal.Read.val_main_v27 (F := Ideal) x0)
      (broadcastInDim S1024 ![] Facts.bcast_S_S1024 (constant S_ .f32 0x44800000#32)))
      (broadcastInDim S1024 ![] Facts.bcast_S_S1024 (constant S_ .f32 0x00000000#32))) r := ⟨_, rfl⟩

/-- Under the precondition the mean distance of every row is positive. -/
theorem mean_pos (x0 x1 : FVec Ideal S1024x64 .f32) (x2 : IVec S1024 32) (h : fn (F := Ideal) x0 x1 x2 = fun _ => 1#1) (i : Fin 1024) :
    0 < mean (pts x0) i := by
  obtain ⟨r, e⟩ := positive_and x0 x1 x2
  rw [e] at h
  have hi : BitVec.ofBool (decide (Ideal.div (Cert.ReferenceIdeal.Read.val_main_v27 (F := Ideal) x0 (ix1 i)) (Ideal.ofBits .f32 0x44800000#32)
      > Ideal.ofBits .f32 0x00000000#32)) &&& r (ix1 i) = 1#1 := congrFun h (ix1 i)
  have both_set : ∀ (p : Bool) (b : BitVec 1), BitVec.ofBool p &&& b = 1#1 → p = true := by decide
  have hp := of_decide_eq_true (both_set _ _ hi)
  rw [Ideal.ofBits_zero_f32] at hp
  have hm : Ideal.div (Cert.ReferenceIdeal.Read.val_main_v27 (F := Ideal) x0 (ix1 i)) (Ideal.ofBits .f32 0x44800000#32) = mean (pts x0) i := by
    rw [← v30_at, Cert.ReferenceIdeal.Read.val_main_v30_apply, Cert.ReferenceIdeal.Read.val_main_v28_apply, Cert.ReferenceIdeal.Read.val_main_v29_apply]
    have q : Cert.ReferenceIdeal.Read.idx_main_v28 (ix2 i 0) = ix1 i := funext fun a => match a with | ⟨0, _⟩ => rfl
    rw [q]
    rfl
  rwa [hm] at hp

end Cert.Relation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ranks_without_ties
public import proofs.«01_k».proof.Proof.KernelValue
public import proofs.«01_k».proof.Proof.RefLoss
public import proofs.«01_k».proof.Proof.Positive
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_ranks_without_ties.Gen.facts

/-- The reference runs, leaves its arguments as they were, and uses no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The constant the idealized kernel names is one twentieth. -/
theorem preserves : Cert.preserves_Kernel_KernelIdeal :=
  IdealRules.named_const.statement Cert.KernelIdeal.κ "twentieth" .f32 0x3D4CCCCD#32 ((1 / 20 : ℝ) : EReal) rfl

/-- Both programs end with the loss of their arguments. -/
theorem algebraic : Cert.algebraic_KernelIdeal_ReferenceIdeal := by
  intro m g m' g' hpre hargs
  have hs := fun c => Cert.Relation.mean_pos _ _ _ (hpre c)
  refine ⟨fun c => Cert.Relation.answer (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Relation.final m c fun i => (hs c i).ne'), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    refine (Cert.ReferenceIdeal.Read.val_main_v142_eq _).trans ?_
    show Cert.ReferenceIdeal.Read.val_main_v142 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
    rw [(hargs c).1, (hargs c).2.1, (hargs c).2.2]
    exact Cert.Relation.v142_eq _ _ _ (hs c)

/-- Everything the certificate claims. -/
theorem claim : Cert.Claim := ⟨Cert.Kernel.Gen.facts, Cert.KernelIdeal.Gen.facts, Cert.ReferenceIdeal.Gen.facts, Cert.Pre_ranks_without_ties.Gen.facts,
  fun m g _ => Cert.Kernel.Gen.frame m g,
  fun m g _ => Cert.Kernel.Gen.frame m g,
  fun m g _ => Cert.KernelIdeal.Gen.frame m g,
  fun m g _ => reference_frame m g,
  fun m g _ => reference_frame m g,
  preserves, algebraic⟩

end Cert.Proof

end
